-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 2048]⟩ ⟨2, ![1024, 16384]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![2048, 1024]⟩ ⟨2, ![16384, 1024]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 2048]⟩ ⟨2, ![1024, 16384]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![2048, 1024]⟩ ⟨2, ![16384, 1024]⟩ 0 8 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![1024, 2048]⟩ ⟨2, ![1024, 16384]⟩ 1 8 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![2048, 1024]⟩ ⟨2, ![16384, 1024]⟩ 0 8 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1024 : Shape := ⟨2, ![64, 1024]⟩
abbrev S1024x2048 : Shape := ⟨2, ![1024, 2048]⟩
abbrev S2048x1024 : Shape := ⟨2, ![2048, 1024]⟩
abbrev S64x2048 : Shape := ⟨2, ![64, 2048]⟩
abbrev S2x64x512 : Shape := ⟨3, ![2, 64, 512]⟩
abbrev S18x64x512 : Shape := ⟨3, ![18, 64, 512]⟩
abbrev S3x1024x2048 : Shape := ⟨3, ![3, 1024, 2048]⟩
abbrev S3x2048x1024 : Shape := ⟨3, ![3, 2048, 1024]⟩
abbrev S8 : Shape := ⟨1, ![8]⟩
abbrev S18 : Shape := ⟨1, ![18]⟩
abbrev S1 : Shape := ⟨1, ![1]⟩
abbrev S_ : Shape := ⟨0, ![]⟩
abbrev S1x512x2048 : Shape := ⟨3, ![1, 512, 2048]⟩
abbrev S512x2048 : Shape := ⟨2, ![512, 2048]⟩
abbrev S1x2048x512 : Shape := ⟨3, ![1, 2048, 512]⟩
abbrev S2048x512 : Shape := ⟨2, ![2048, 512]⟩
abbrev S1x1024x2048 : Shape := ⟨3, ![1, 1024, 2048]⟩
abbrev S1x2048x1024 : Shape := ⟨3, ![1, 2048, 1024]⟩
abbrev S64x512 : Shape := ⟨2, ![64, 512]⟩
abbrev S1x64x512 : Shape := ⟨3, ![1, 64, 512]⟩

abbrev nBuf : Space → Nat
  | .hbm => 8
  | .vmem => 8
  | .smem => 0
  | _ => 0

abbrev bufTy : (tb : Table) → Fin (tcTables nBuf tb) → BufTy
  | .hbm, ⟨0, _⟩ => ⟨S64x1024, .f32⟩
  | .hbm, ⟨1, _⟩ => ⟨S1024x2048, .f32⟩
  | .hbm, ⟨2, _⟩ => ⟨S2048x1024, .f32⟩
  | .hbm, ⟨3, _⟩ => ⟨S1024x2048, .f32⟩
  | .hbm, ⟨4, _⟩ => ⟨S2048x1024, .f32⟩
  | .hbm, ⟨5, _⟩ => ⟨S1024x2048, .f32⟩
  | .hbm, ⟨6, _⟩ => ⟨S2048x1024, .f32⟩
  | .hbm, ⟨7, _⟩ => ⟨S64x1024, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x2048, .f32⟩
  | .local _ .vmem, ⟨4, _⟩ => ⟨S2x64x512, .bf16⟩
  | .local _ .vmem, ⟨5, _⟩ => ⟨S18x64x512, .bf16⟩
  | .local _ .vmem, ⟨6, _⟩ => ⟨S3x1024x2048, .f32⟩
  | .local _ .vmem, ⟨7, _⟩ => ⟨S3x2048x1024, .f32⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  (ofTc nBuf bufTy 1 46 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_32 : BitVec 32 := 1#32
  let v40 : BitVec 32 := Scalar.xori v2 c1_i32_32
  let c1_i32_34 : BitVec 32 := 1#32
  let v41 : BitVec 32 := Scalar.muli v40 c1_i32_34
  let v42 : BitVec 32 := Scalar.addi c0_i32_35 v41
  v42.toNat
def k0_dev2 (d0 : Dev nD) : Nat :=
  let c0_i32_39 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_36 : BitVec 32 := 3#32
  let v43 : BitVec 32 := Scalar.xori v2 c3_i32_36
  let c1_i32_38 : BitVec 32 := 1#32
  let v44 : BitVec 32 := Scalar.muli v43 c1_i32_38
  let v45 : BitVec 32 := Scalar.addi c0_i32_39 v44
  v45.toNat
def k0_dev3 (d0 : Dev nD) : Nat :=
  let c0_i32_43 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_40 : BitVec 32 := 4#32
  let v46 : BitVec 32 := Scalar.xori v2 c4_i32_40
  let c1_i32_42 : BitVec 32 := 1#32
  let v47 : BitVec 32 := Scalar.muli v46 c1_i32_42
  let v48 : BitVec 32 := Scalar.addi c0_i32_43 v47
  v48.toNat
def k0_dev4 (d0 : Dev nD) : Nat :=
  let c0_i32_88 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_82 : BitVec 32 := 1#32
  let v87 : BitVec 32 := Scalar.xori v2 c1_i32_82
  let c1_i32_87 : BitVec 32 := 1#32
  let v88 : BitVec 32 := Scalar.muli v87 c1_i32_87
  let v89 : BitVec 32 := Scalar.addi c0_i32_88 v88
  v89.toNat
def k0_dev5 (d0 : Dev nD) : Nat :=
  let c0_i32_113 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_107 : BitVec 32 := 3#32
  let v113 : BitVec 32 := Scalar.xori v2 c3_i32_107
  let c1_i32_112 : BitVec 32 := 1#32
  let v114 : BitVec 32 := Scalar.muli v113 c1_i32_112
  let v115 : BitVec 32 := Scalar.addi c0_i32_113 v114
  v115.toNat
def k0_dev6 (d0 : Dev nD) : Nat :=
  let c0_i32_153 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_147 : BitVec 32 := 3#32
  let v150 : BitVec 32 := Scalar.xori v2 c3_i32_147
  let c1_i32_152 : BitVec 32 := 1#32
  let v151 : BitVec 32 := Scalar.muli v150 c1_i32_152
  let v152 : BitVec 32 := Scalar.addi c0_i32_153 v151
  v152.toNat
def k0_dev7 (d0 : Dev nD) : Nat :=
  let c0_i32_193 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_187 : BitVec 32 := 4#32
  let v187 : BitVec 32 := Scalar.xori v2 c4_i32_187
  let c1_i32_192 : BitVec 32 := 1#32
  let v188 : BitVec 32 := Scalar.muli v187 c1_i32_192
  let v189 : BitVec 32 := Scalar.addi c0_i32_193 v188
  v189.toNat
def k0_dev8 (d0 : Dev nD) : Nat :=
  let c0_i32_232 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_226 : BitVec 32 := 4#32
  let v224 : BitVec 32 := Scalar.xori v2 c4_i32_226
  let c1_i32_231 : BitVec 32 := 1#32
  let v225 : BitVec 32 := Scalar.muli v224 c1_i32_231
  let v226 : BitVec 32 := Scalar.addi c0_i32_232 v225
  v226.toNat
def k0_dev9 (d0 : Dev nD) : Nat :=
  let c0_i32_271 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_265 : BitVec 32 := 1#32
  let v261 : BitVec 32 := Scalar.xori v2 c1_i32_265
  let c1_i32_270 : BitVec 32 := 1#32
  let v262 : BitVec 32 := Scalar.muli v261 c1_i32_270
  let v263 : BitVec 32 := Scalar.addi c0_i32_271 v262
  v263.toNat
def k0_dev10 (d0 : Dev nD) : Nat :=
  let c0_i32_358 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_352 : BitVec 32 := 1#32
  let v341 : BitVec 32 := Scalar.xori v2 c1_i32_352
  let c1_i32_357 : BitVec 32 := 1#32
  let v342 : BitVec 32 := Scalar.muli v341 c1_i32_357
  let v343 : BitVec 32 := Scalar.addi c0_i32_358 v342
  v343.toNat
def k0_dev11 (d0 : Dev nD) : Nat :=
  let c0_i32_378 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_372 : BitVec 32 := 3#32
  let v362 : BitVec 32 := Scalar.xori v2 c3_i32_372
  let c1_i32_377 : BitVec 32 := 1#32
  let v363 : BitVec 32 := Scalar.muli v362 c1_i32_377
  let v364 : BitVec 32 := Scalar.addi c0_i32_378 v363
  v364.toNat
def k0_dev12 (d0 : Dev nD) : Nat :=
  let c0_i32_417 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_411 : BitVec 32 := 3#32
  let v399 : BitVec 32 := Scalar.xori v2 c3_i32_411
  let c1_i32_416 : BitVec 32 := 1#32
  let v400 : BitVec 32 := Scalar.muli v399 c1_i32_416
  let v401 : BitVec 32 := Scalar.addi c0_i32_417 v400
  v401.toNat
def k0_dev13 (d0 : Dev nD) : Nat :=
  let c0_i32_455 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_450 : BitVec 32 := 4#32
  let v436 : BitVec 32 := Scalar.xori v2 c4_i32_450
  let c1_i32_454 : BitVec 32 := 1#32
  let v437 : BitVec 32 := Scalar.muli v436 c1_i32_454
  let v438 : BitVec 32 := Scalar.addi c0_i32_455 v437
  v438.toNat
def k0_dev14 (d0 : Dev nD) : Nat :=
  let c0_i32_493 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_488 : BitVec 32 := 4#32
  let v473 : BitVec 32 := Scalar.xori v2 c4_i32_488
  let c1_i32_492 : BitVec 32 := 1#32
  let v474 : BitVec 32 := Scalar.muli v473 c1_i32_492
  let v475 : BitVec 32 := Scalar.addi c0_i32_493 v474
  v475.toNat
def k0_dev15 (d0 : Dev nD) : Nat :=
  let c0_i32_531 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_526 : BitVec 32 := 1#32
  let v510 : BitVec 32 := Scalar.xori v2 c1_i32_526
  let c1_i32_530 : BitVec 32 := 1#32
  let v511 : BitVec 32 := Scalar.muli v510 c1_i32_530
  let v512 : BitVec 32 := Scalar.addi c0_i32_531 v511
  v512.toNat
def k0_dev16 (d0 : Dev nD) : Nat :=
  let c0_i32_617 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_612 : BitVec 32 := 1#32
  let v590 : BitVec 32 := Scalar.xori v2 c1_i32_612
  let c1_i32_616 : BitVec 32 := 1#32
  let v591 : BitVec 32 := Scalar.muli v590 c1_i32_616
  let v592 : BitVec 32 := Scalar.addi c0_i32_617 v591
  v592.toNat
def k0_dev17 (d0 : Dev nD) : Nat :=
  let c0_i32_636 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_631 : BitVec 32 := 3#32
  let v611 : BitVec 32 := Scalar.xori v2 c3_i32_631
  let c1_i32_635 : BitVec 32 := 1#32
  let v612 : BitVec 32 := Scalar.muli v611 c1_i32_635
  let v613 : BitVec 32 := Scalar.addi c0_i32_636 v612
  v613.toNat
def k0_dev18 (d0 : Dev nD) : Nat :=
  let c0_i32_674 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_669 : BitVec 32 := 3#32
  let v648 : BitVec 32 := Scalar.xori v2 c3_i32_669
  let c1_i32_673 : BitVec 32 := 1#32
  let v649 : BitVec 32 := Scalar.muli v648 c1_i32_673
  let v650 : BitVec 32 := Scalar.addi c0_i32_674 v649
  v650.toNat
def k0_dev19 (d0 : Dev nD) : Nat :=
  let c0_i32_712 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_707 : BitVec 32 := 4#32
  let v685 : BitVec 32 := Scalar.xori v2 c4_i32_707
  let c1_i32_711 : BitVec 32 := 1#32
  let v686 : BitVec 32 := Scalar.muli v685 c1_i32_711
  let v687 : BitVec 32 := Scalar.addi c0_i32_712 v686
  v687.toNat
def k0_dev20 (d0 : Dev nD) : Nat :=
  let c0_i32_750 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_745 : BitVec 32 := 4#32
  let v722 : BitVec 32 := Scalar.xori v2 c4_i32_745
  let c1_i32_749 : BitVec 32 := 1#32
  let v723 : BitVec 32 := Scalar.muli v722 c1_i32_749
  let v724 : BitVec 32 := Scalar.addi c0_i32_750 v723
  v724.toNat
def k0_dev21 (d0 : Dev nD) : Nat :=
  let c0_i32_788 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_783 : BitVec 32 := 1#32
  let v759 : BitVec 32 := Scalar.xori v2 c1_i32_783
  let c1_i32_787 : BitVec 32 := 1#32
  let v760 : BitVec 32 := Scalar.muli v759 c1_i32_787
  let v761 : BitVec 32 := Scalar.addi c0_i32_788 v760
  v761.toNat
abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S64x1024 : Shape := ⟨2, ![64, 1024]⟩
abbrev S1024x16384 : Shape := ⟨2, ![1024, 16384]⟩
abbrev S16384x1024 : Shape := ⟨2, ![16384, 1024]⟩
abbrev S64x16384 : Shape := ⟨2, ![64, 16384]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S64x1024, .f32⟩
  | .hbm, ⟨1, _⟩ => ⟨S1024x16384, .f32⟩
  | .hbm, ⟨2, _⟩ => ⟨S16384x1024, .f32⟩
  | .hbm, ⟨3, _⟩ => ⟨S1024x16384, .f32⟩
  | .hbm, ⟨4, _⟩ => ⟨S16384x1024, .f32⟩
  | .hbm, ⟨5, _⟩ => ⟨S1024x16384, .f32⟩
  | .hbm, ⟨6, _⟩ => ⟨S16384x1024, .f32⟩
  | .hbm, ⟨7, _⟩ => ⟨S64x16384, .f32⟩
  | .hbm, ⟨8, _⟩ => ⟨S_, .f32⟩
  | .hbm, ⟨9, _⟩ => ⟨S64x16384, .f32⟩
  | .hbm, ⟨10, _⟩ => ⟨S64x16384, .f32⟩
  | .hbm, ⟨11, _⟩ => ⟨S64x1024, .f32⟩
  | .hbm, ⟨12, _⟩ => ⟨S64x16384, .f32⟩
  | .hbm, ⟨13, _⟩ => ⟨S_, .f32⟩
  | .hbm, ⟨14, _⟩ => ⟨S64x16384, .f32⟩
  | .hbm, ⟨15, _⟩ => ⟨S64x16384, .f32⟩
  | .hbm, ⟨16, _⟩ => ⟨S64x1024, .f32⟩
  | .hbm, ⟨17, _⟩ => ⟨S64x16384, .f32⟩
  | .hbm, ⟨18, _⟩ => ⟨S_, .f32⟩
  | .hbm, ⟨19, _⟩ => ⟨S64x16384, .f32⟩
  | .hbm, ⟨20, _⟩ => ⟨S64x16384, .f32⟩
  | .hbm, ⟨21, _⟩ => ⟨S64x1024, .f32⟩
  | _, _ => ⟨S64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Values.lean ====
/- What every device computes, as functions of the arrays it starts from: the hidden activations of each
   layer, the partial products, and the running sums of the three exchange steps. -/
module

public import proofs.«01_k».proof.Proof.Gen.KernelIdeal
public import proofs.«01_k».proof.Proof.Gen.KernelIdeal.Skeleton
public import Idealize.ShloMosaic.Lib.Pipeline.Value

@[expose] public section

noncomputable section

namespace Cert.Exchange

open Cert.KernelIdeal Cert.KernelIdeal.Gen
open Idealize.ShloMosaic

variable {F : FTy → Type} [FloatOps F]

/-! ## The partners -/

/-- The bit pattern of exchange step `d`. -/
def mask (d : ℕ) : ℕ := if d = 0 then 1 else if d = 1 then 3 else 4
theorem mask_lt (d : ℕ) : mask d < 8 := by unfold mask; split <;> [decide; (split <;> decide)]

/-- The device that differs from `c` by the bit pattern of step `d`. -/
def step (d : ℕ) (c : Dev nD) : Dev nD := ⟨c.val ^^^ mask d, Nat.xor_lt_two_pow (n := 3) c.isLt (mask_lt d)⟩

/-- Taking the same step twice comes back. -/
theorem step_step (d : ℕ) (c : Dev nD) : step d (step d c) = c :=
  Fin.ext (by show (c.val ^^^ mask d) ^^^ mask d = c.val; rw [Nat.xor_assoc, Nat.xor_self, Nat.xor_zero])

/-- The step that copy `k` takes: copies run through layers, rounds and column halves in this order. -/
def leg (k : ℕ) : ℕ := ((k / 2) % 3 + k % 2) % 3
theorem leg_lt (k : ℕ) : leg k < 3 := Nat.mod_lt _ (by decide)

/-- Whom device `c` exchanges copy `k` with. -/
abbrev mate (k : ℕ) (c : Dev nD) : Dev nD := step (leg k) c

/-! ## The contents -/

/-- The arrays every device holds before the run. -/
structure Data (F : FTy → Type) where
  /-- the activations -/
  x : Dev nD → Vec F S64x1024 .f32
  /-- the device's columns of a layer's first matrix -/
  wi : ℕ → Dev nD → Vec F S1024x2048 .f32
  /-- the device's rows of a layer's second matrix -/
  wo : ℕ → Dev nD → Vec F S2048x1024 .f32

variable (D : Data F)

/-- The left columns of the activations. -/
def xA (c : Dev nD) : Vec F S64x512 .f32 :=
  fun j => D.x c ((Rect.unit (s := S64x1024) ![0, 0] S64x512.size inb_S64x1024_S64x512_0_0).emb j)
/-- The right columns of the activations. -/
def xB (c : Dev nD) : Vec F S64x512 .f32 :=
  fun j => D.x c ((Rect.unit (s := S64x1024) ![0, 512] S64x512.size inb_S64x1024_S64x512_0_512).emb j)
/-- The upper rows of a layer's first matrix. -/
def wA (l : ℕ) (c : Dev nD) : Vec F S1x512x2048 .f32 :=
  shapeCast S1x512x2048 (fun i : S512x2048.Idx =>
    D.wi l c ((Rect.unit (s := S1024x2048) ![0, 0] S512x2048.size inb_S1024x2048_S512x2048_0_0).emb i)) (by decide)
/-- The lower rows of a layer's first matrix. -/
def wB (l : ℕ) (c : Dev nD) : Vec F S1x512x2048 .f32 :=
  shapeCast S1x512x2048 (fun i : S512x2048.Idx =>
    D.wi l c ((Rect.unit (s := S1024x2048) ![512, 0] S512x2048.size inb_S1024x2048_S512x2048_512_0).emb i)) (by decide)
/-- The left columns of a layer's second matrix. -/
def oA (l : ℕ) (c : Dev nD) : Vec F S1x2048x512 .f32 :=
  shapeCast S1x2048x512 (fun i : S2048x512.Idx =>
    D.wo l c ((Rect.unit (s := S2048x1024) ![0, 0] S2048x512.size inb_S2048x1024_S2048x512_0_0).emb i)) (by decide)
/-- The right columns of a layer's second matrix. -/
def oB (l : ℕ) (c : Dev nD) : Vec F S1x2048x512 .f32 :=
  shapeCast S1x2048x512 (fun i : S2048x512.Idx =>
    D.wo l c ((Rect.unit (s := S2048x1024) ![0, 512] S2048x512.size inb_S2048x1024_S2048x512_0_512).emb i)) (by decide)
/-- The columns of half `q`. -/
def oW (l q : ℕ) (c : Dev nD) : Vec F S1x2048x512 .f32 := if q = 0 then oA D l c else oB D l c

/-- What a device sends of a running sum: each element rounded to the narrow format. -/
def pack (a : FVec F S64x512 .f32) : FVec F S1x64x512 .bf16 :=
  shapeCast S1x64x512 (truncf .bf16 a bitsLt_bf16_f32) shapeCasts_S64x512_S1x64x512

/-- The running sum of column half `q` after `r` exchange steps, from the hidden activations `h`. -/
def sums (h : Dev nD → FVec F S64x2048 .f32) (o : Dev nD → Vec F S1x2048x512 .f32) (q : ℕ) : ℕ → Dev nD → FVec F S64x512 .f32
  | 0, c => k0_pay3 (h c) (o c)
  | r + 1, c => k0_pay9 (sums h o q r c) (pack (sums h o q r (step ((r + q) % 3) c)))

/-- The hidden activations of layer `l`: the first from the input, the others from the layer before. -/
def hid : ℕ → Dev nD → FVec F S64x2048 .f32
  | 0, c => k0_pay2 (xA D c) (wA D 0 c) (xB D c) (wB D 0 c)
  | l + 1, c => k0_pay24 (sums (hid l) (oW D l 1) 1 3 c) (k0_pay22 (sums (hid l) (oW D l 0) 0 3 c) (wA D (l + 1) c)) (wB D (l + 1) c)

/-- The running sum of layer `l`, column half `q`, after `r` exchange steps on device `c`. -/
def acc (l q r : ℕ) (c : Dev nD) : FVec F S64x512 .f32 := sums (hid D l) (oW D l q) q r c

/-- The contents of copy `k` from device `c`. -/
def sent (k : ℕ) (c : Dev nD) : FVec F S1x64x512 .bf16 := pack (acc D (k / 6) (k % 2) (k / 2 % 3) c)

theorem acc_zero (l q : ℕ) (c : Dev nD) : acc D l q 0 c = k0_pay3 (hid D l c) (oW D l q c) := rfl
theorem acc_succ (l q r : ℕ) (c : Dev nD) :
    acc D l q (r + 1) c = k0_pay9 (acc D l q r c) (pack (acc D l q r (step ((r + q) % 3) c))) := rfl
theorem hid_succ (l : ℕ) (c : Dev nD) :
    hid D (l + 1) c = k0_pay24 (acc D l 1 3 c) (k0_pay22 (acc D l 0 3 c) (wA D (l + 1) c)) (wB D (l + 1) c) := rfl

/-- The columns of half `q` of the output block. -/
def outHalf (q : ℕ) (c : Dev nD) : FVec F S64x512 .f32 := acc D 2 q 3 c

end Cert.Exchange

end
-- ==== Proof.Cells.lean ====
/- The kernel's buffers, slots and semaphores by name, and which cell of which device is which. -/
module

public import proofs.«01_k».proof.Proof.Values
public import proofs.«01_k».proof.Proof.Gen.KernelIdeal.Launch
public import proofs.«01_k».proof.Proof.Gen.KernelIdeal.Frame
public import Idealize.ShloMosaic.Lib.Pipeline.Kit
public import Idealize.ShloMosaic.Lib.Rounds
public import Idealize.ShloMosaic.Lib.Transfers
public import Idealize.ShloMosaic.Lib.Memref

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-! ## Buffers -/

abbrev xM : Memref sig .tc .vmem S64x1024 .f32 := Memref.whole cc0_stg0_0
abbrev oM : Memref sig .tc .vmem S64x1024 .f32 := Memref.whole cc0_stg1_0
abbrev aM : Memref sig .tc .vmem S64x1024 .f32 := Memref.whole cc0_scratch0
abbrev hM : Memref sig .tc .vmem S64x2048 .f32 := Memref.whole cc0_scratch1
abbrev sM : Memref sig .tc .vmem S2x64x512 .bf16 := Memref.whole cc0_scratch2
abbrev rM : Memref sig .tc .vmem S18x64x512 .bf16 := Memref.whole cc0_scratch3
abbrev wM : Memref sig .tc .vmem S3x1024x2048 .f32 := Memref.whole cc0_scratch4
abbrev uM : Memref sig .tc .vmem S3x2048x1024 .f32 := Memref.whole cc0_scratch5

/-! ## Slots -/

theorem inbSlot (k : ℕ) (hk : k < 18) : ∀ a, (![k, 0, 0] : Fin 3 → Nat) a + S1x64x512.size a ≤ S18x64x512.size a :=
  fun
  | ⟨0, _⟩ => (by omega : k + 1 ≤ 18)
  | ⟨1, _⟩ => (by decide : 0 + 64 ≤ 64)
  | ⟨2, _⟩ => (by decide : 0 + 512 ≤ 512)
theorem inbSend (q : ℕ) (hq : q < 2) : ∀ a, (![q, 0, 0] : Fin 3 → Nat) a + S1x64x512.size a ≤ S2x64x512.size a :=
  fun
  | ⟨0, _⟩ => (by omega : q + 1 ≤ 2)
  | ⟨1, _⟩ => (by decide : 0 + 64 ≤ 64)
  | ⟨2, _⟩ => (by decide : 0 + 512 ≤ 512)
theorem inbSem (k : ℕ) (hk : k < 18) : ∀ a, (![k] : Fin 1 → Nat) a + S1.size a ≤ S18.size a :=
  fun | ⟨0, _⟩ => (by omega : k + 1 ≤ 18)
theorem inbLoad (j : ℕ) (hj : j < 8) : ∀ a, (![j] : Fin 1 → Nat) a + S1.size a ≤ S8.size a :=
  fun | ⟨0, _⟩ => (by omega : j + 1 ≤ 8)

/-- The rows of landing slot `k`, and of outgoing slot `q`. -/
abbrev rR (k : ℕ) (hk : k < 18) : Rect S18x64x512 := Rect.unit (s := S18x64x512) ![k, 0, 0] S1x64x512.size (inbSlot k hk)
abbrev sR (q : ℕ) (hq : q < 2) : Rect S2x64x512 := Rect.unit (s := S2x64x512) ![q, 0, 0] S1x64x512.size (inbSend q hq)

/-- Landing slot `k` and outgoing slot `q`, with their leading axis of one. -/
abbrev rS (k : ℕ) (hk : k < 18) : Memref sig .tc .vmem S1x64x512 .bf16 := rM.slice (rR k hk) (fun _ => rfl)
abbrev sS (q : ℕ) (hq : q < 2) : Memref sig .tc .vmem S1x64x512 .bf16 := sM.slice (sR q hq) (fun _ => rfl)
/-- The same slots as the copies name them, the leading axis dropped. -/
abbrev rQ (k : ℕ) (hk : k < 18) : Memref sig .tc .vmem S64x512 .bf16 := (rS k hk).squeeze S64x512 squeezes_S1x64x512_S64x512
abbrev sQ (q : ℕ) (hq : q < 2) : Memref sig .tc .vmem S64x512 .bf16 := (sS q hq).squeeze S64x512 squeezes_S1x64x512_S64x512

theorem half_lt (k : ℕ) : k % 2 < 2 := Nat.mod_lt _ (by decide)

/-- The units one copy brings to a semaphore. -/
abbrev N : ℕ := (rQ 0 (by decide)).view.dmaCredit
theorem N_pos : 0 < N := View.dmaCredit_pos _ (by decide)

/-! ## Semaphores -/

abbrev barA : Sems sig S_ := SemArray.scalar (sig.barrier 0 rfl)
abbrev barS : Sem sig := barA.sem
abbrev ldS (j : ℕ) (hj : j < 8) : DmaSem sig :=
  ((cc0_scratch6.slice (Rect.unit (s := S8) ![j] S1.size (inbLoad j hj))).squeeze S_ squeezes_S1_S_).sem
abbrev sdS (k : ℕ) (hk : k < 18) : DmaSem sig :=
  ((cc0_scratch7.slice (Rect.unit (s := S18) ![k] S1.size (inbSem k hk))).squeeze S_ squeezes_S1_S_).sem
abbrev rvS (k : ℕ) (hk : k < 18) : DmaSem sig :=
  ((cc0_scratch8.slice (Rect.unit (s := S18) ![k] S1.size (inbSem k hk))).squeeze S_ squeezes_S1_S_).sem

theorem ldS_val (j : ℕ) (hj : j < 8) : (ldS j hj).val = 2 + j := by
  have h : ∀ i : Fin 8, (ldS i.val i.isLt).val = 2 + i.val := by decide
  exact h ⟨j, hj⟩
theorem sdS_val (k : ℕ) (hk : k < 18) : (sdS k hk).val = 10 + k := by
  have h : ∀ i : Fin 18, (sdS i.val i.isLt).val = 10 + i.val := by decide
  exact h ⟨k, hk⟩
theorem rvS_val (k : ℕ) (hk : k < 18) : (rvS k hk).val = 28 + k := by
  have h : ∀ i : Fin 18, (rvS i.val i.isLt).val = 28 + i.val := by decide
  exact h ⟨k, hk⟩

/-! ## Cells -/

abbrev bCell (c : Dev nD) : GSem nD τ sig := ((c : Thread nD τ), .reg barS)
abbrev sCell (c : Dev nD) (k : Fin 18) : GSem nD τ sig := ((c : Thread nD τ), .dma (sdS k.val k.isLt))
abbrev rCell (c : Dev nD) (k : Fin 18) : GSem nD τ sig := ((c : Thread nD τ), .dma (rvS k.val k.isLt))

theorem dma_inj {a b : DmaSem sig} (h : (SemLoc.dma a : SemLoc sig) = .dma b) : a.val = b.val := by cases h; rfl

theorem bCell_inj {c d : Dev nD} (h : bCell c = bCell d) : c = d := congrArg (fun g : GSem nD τ sig => g.1.1) h
theorem rCell_inj {c d : Dev nD} {j k : Fin 18} (h : rCell c j = rCell d k) : c = d ∧ j = k := by
  refine ⟨congrArg (fun g : GSem nD τ sig => g.1.1) h, Fin.ext ?_⟩
  have h2 := dma_inj (congrArg (fun g : GSem nD τ sig => g.2) h)
  rw [rvS_val, rvS_val] at h2; omega
theorem sCell_inj {c d : Dev nD} {j k : Fin 18} (h : sCell c j = sCell d k) : c = d ∧ j = k := by
  refine ⟨congrArg (fun g : GSem nD τ sig => g.1.1) h, Fin.ext ?_⟩
  have h2 := dma_inj (congrArg (fun g : GSem nD τ sig => g.2) h)
  rw [sdS_val, sdS_val] at h2; omega
theorem rCell_ne_sCell {c d : Dev nD} {j k : Fin 18} : rCell c j ≠ sCell d k := fun h => by
  have h2 := dma_inj (congrArg (fun g : GSem nD τ sig => g.2) h)
  rw [rvS_val, sdS_val] at h2; omega
theorem bCell_ne_rCell {c d : Dev nD} {k : Fin 18} : bCell c ≠ rCell d k := fun h => by
  have h2 := congrArg (fun g : GSem nD τ sig => g.2) h; cases h2
theorem bCell_ne_sCell {c d : Dev nD} {k : Fin 18} : bCell c ≠ sCell d k := fun h => by
  have h2 := congrArg (fun g : GSem nD τ sig => g.2) h; cases h2

/-- The cells of one device: its barrier, its sending cells, its receiving cells. -/
abbrev Ci : Type := Unit ⊕ (Fin 18 ⊕ Fin 18)
def cellAt (x : Dev nD × Ci) : GSem nD τ sig :=
  match x.2 with
  | .inl _ => bCell x.1
  | .inr (.inl k) => sCell x.1 k
  | .inr (.inr k) => rCell x.1 k

theorem cellAt_injective : Function.Injective cellAt := by
  rintro ⟨c, i⟩ ⟨d, j⟩ h
  rcases i with _ | i | i <;> rcases j with _ | j | j
  · cases bCell_inj h; rfl
  · exact absurd h bCell_ne_sCell
  · exact absurd h bCell_ne_rCell
  · exact absurd h.symm bCell_ne_sCell
  · obtain ⟨rfl, rfl⟩ := sCell_inj h; rfl
  · exact absurd h.symm rCell_ne_sCell
  · exact absurd h.symm bCell_ne_rCell
  · exact absurd h rCell_ne_sCell
  · obtain ⟨rfl, rfl⟩ := rCell_inj h; rfl

/-! ## The device ids the program computes -/

theorem dev_bar0 (c : Dev nD) : (⟨k0_dev1 c, k0_dev1_lt c⟩ : Dev nD) = step 0 c := by revert c; decide +kernel
theorem dev_bar1 (c : Dev nD) : (⟨k0_dev2 c, k0_dev2_lt c⟩ : Dev nD) = step 1 c := by revert c; decide +kernel
theorem dev_bar2 (c : Dev nD) : (⟨k0_dev3 c, k0_dev3_lt c⟩ : Dev nD) = step 2 c := by revert c; decide +kernel
theorem dev_0 (c : Dev nD) : (⟨k0_dev4 c, k0_dev4_lt c⟩ : Dev nD) = mate 0 c := by revert c; decide +kernel
theorem dev_1 (c : Dev nD) : (⟨k0_dev5 c, k0_dev5_lt c⟩ : Dev nD) = mate 1 c := by revert c; decide +kernel
theorem dev_2 (c : Dev nD) : (⟨k0_dev6 c, k0_dev6_lt c⟩ : Dev nD) = mate 2 c := by revert c; decide +kernel
theorem dev_3 (c : Dev nD) : (⟨k0_dev7 c, k0_dev7_lt c⟩ : Dev nD) = mate 3 c := by revert c; decide +kernel
theorem dev_4 (c : Dev nD) : (⟨k0_dev8 c, k0_dev8_lt c⟩ : Dev nD) = mate 4 c := by revert c; decide +kernel
theorem dev_5 (c : Dev nD) : (⟨k0_dev9 c, k0_dev9_lt c⟩ : Dev nD) = mate 5 c := by revert c; decide +kernel
theorem dev_6 (c : Dev nD) : (⟨k0_dev10 c, k0_dev10_lt c⟩ : Dev nD) = mate 6 c := by revert c; decide +kernel
theorem dev_7 (c : Dev nD) : (⟨k0_dev11 c, k0_dev11_lt c⟩ : Dev nD) = mate 7 c := by revert c; decide +kernel
theorem dev_8 (c : Dev nD) : (⟨k0_dev12 c, k0_dev12_lt c⟩ : Dev nD) = mate 8 c := by revert c; decide +kernel
theorem dev_9 (c : Dev nD) : (⟨k0_dev13 c, k0_dev13_lt c⟩ : Dev nD) = mate 9 c := by revert c; decide +kernel
theorem dev_10 (c : Dev nD) : (⟨k0_dev14 c, k0_dev14_lt c⟩ : Dev nD) = mate 10 c := by revert c; decide +kernel
theorem dev_11 (c : Dev nD) : (⟨k0_dev15 c, k0_dev15_lt c⟩ : Dev nD) = mate 11 c := by revert c; decide +kernel
theorem dev_12 (c : Dev nD) : (⟨k0_dev16 c, k0_dev16_lt c⟩ : Dev nD) = mate 12 c := by revert c; decide +kernel
theorem dev_13 (c : Dev nD) : (⟨k0_dev17 c, k0_dev17_lt c⟩ : Dev nD) = mate 13 c := by revert c; decide +kernel
theorem dev_14 (c : Dev nD) : (⟨k0_dev18 c, k0_dev18_lt c⟩ : Dev nD) = mate 14 c := by revert c; decide +kernel
theorem dev_15 (c : Dev nD) : (⟨k0_dev19 c, k0_dev19_lt c⟩ : Dev nD) = mate 15 c := by revert c; decide +kernel
theorem dev_16 (c : Dev nD) : (⟨k0_dev20 c, k0_dev20_lt c⟩ : Dev nD) = mate 16 c := by revert c; decide +kernel
theorem dev_17 (c : Dev nD) : (⟨k0_dev21 c, k0_dev21_lt c⟩ : Dev nD) = mate 17 c := by revert c; decide +kernel

end Cert.Exchange

end
-- ==== Proof.Protocol.lean ====
/- The protocol between the devices, with contents.

   * Barrier cell of `c`: three duties, one per exchange step `d`, each of one unit, paid by `step d c` when it
     enters.  The payment hands `c` that device's landing slots for the copies of step `d`, with any contents.
   * Sending cell `k` of `c`: one duty, the credit of one copy, paid by the copy `k` of `c` itself.  It hands `c`
     its outgoing slot back.
   * Receiving cell `k` of `c`: one duty, the credit of one copy, paid by copy `k` of `mate k c`.  It hands `c`
     landing slot `k`, holding the rounded running sum of `mate k c`.
   Every cell is used for one round. -/
module

public import proofs.«01_k».proof.Proof.Cells

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's rounds, the exchange's rounds, the local transfers' counters -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The exchange's rounds: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

/-! ## What the landings hand over -/

variable (D : Data F)

/-- Landing slot `k` of device `p`, with any contents. -/
def anySlot (p : Dev nD) (k : Fin 18) : sProp 𝕄 := iprop(∃ X, owns (p : Thread nD τ) (rS k.val k.isLt) fullShare X)
/-- The copies that take step `d`. -/
def legs (d : Fin 3) : Finset (Fin 18) := Finset.univ.filter fun k => leg k.val = d.val
def barPay (c : Dev nD) (d : Fin 3) : sProp 𝕄 := bigSep (legs d) fun k => anySlot (step d.val c) k
def sendPay (c : Dev nD) (k : Fin 18) : sProp 𝕄 :=
  owns (c : Thread nD τ) (sS (k.val % 2) (half_lt k.val)) fullShare (sent D k.val c)
def recvPay (c : Dev nD) (k : Fin 18) : sProp 𝕄 :=
  owns (c : Thread nD τ) (rS k.val k.isLt) fullShare (sent D k.val (mate k.val c))

instance anySlot_storable (p : Dev nD) (k : Fin 18) : BI.Storable (upEmb : UEmb _ 𝕄) (anySlot (F := F) p k) := by unfold anySlot; infer_instance
instance barPay_storable (c : Dev nD) (d : Fin 3) : BI.Storable (upEmb : UEmb _ 𝕄) (barPay (F := F) c d) := by unfold barPay; infer_instance
instance sendPay_storable (c : Dev nD) (k : Fin 18) : BI.Storable (upEmb : UEmb _ 𝕄) (sendPay D c k) := by unfold sendPay; infer_instance
instance recvPay_storable (c : Dev nD) (k : Fin 18) : BI.Storable (upEmb : UEmb _ 𝕄) (recvPay D c k) := by unfold recvPay; infer_instance

/-! ## The schedule -/

/-- The duties a semaphore carries. -/
def dutySet (s : SemLoc sig) : Finset (Fin 3) :=
  match s with
  | .reg _ => Finset.univ
  | .dma q => if 10 ≤ q.val then {0} else ∅

def unitsOf (s : SemLoc sig) : ℕ := match s with | .reg _ => 1 | .dma _ => N

def payOf (c : Dev nD) (s : SemLoc sig) (d : Fin 3) : sProp 𝕄 :=
  match s with
  | .reg _ => barPay c d
  | .dma q =>
    if h : 28 ≤ q.val ∧ q.val - 28 < 18 then recvPay D c ⟨q.val - 28, h.2⟩
    else if h : 10 ≤ q.val ∧ q.val - 10 < 18 then sendPay D c ⟨q.val - 10, h.2⟩
    else iprop(emp)

instance payOf_storable (c : Dev nD) (s : SemLoc sig) (d : Fin 3) : BI.Storable (upEmb : UEmb _ 𝕄) (payOf D c s d) := by
  unfold payOf; split
  · infer_instance
  · (repeat' split) <;> infer_instance

def Rd : Rounds.Schedule (GSem nD τ sig) (Fin 3) 𝕄 where
  duties g r := if r = 0 ∧ g.1.2 = .tc then dutySet g.2 else ∅
  unitless _ := False
  amount g _ _ := unitsOf g.2
  payload g _ d := payOf D g.1.1 g.2 d
  amount_pos g _ _ _ := by
    rcases g with ⟨_, s⟩; cases s
    · exact Nat.one_pos
    · exact N_pos

instance Rd_payload_storable (g : GSem nD τ sig) (r : ℕ) (d : Fin 3) : BI.Storable (upEmb : UEmb _ 𝕄) ((Rd D).payload g r d) := by
  show BI.Storable upEmb (payOf D g.1.1 g.2 d); infer_instance

section Sched
variable (c : Dev nD) (k : Fin 18)

theorem duties_bar : (Rd D).duties (bCell c) 0 = Finset.univ := by dsimp only [Rd]; exact if_pos ⟨rfl, rfl⟩
theorem duties_send : (Rd D).duties (sCell c k) 0 = {0} := by
  dsimp only [Rd]; rw [if_pos ⟨rfl, rfl⟩]; dsimp only [dutySet]; rw [if_pos (by rw [sdS_val]; omega)]
theorem duties_recv : (Rd D).duties (rCell c k) 0 = {0} := by
  dsimp only [Rd]; rw [if_pos ⟨rfl, rfl⟩]; dsimp only [dutySet]; rw [if_pos (by rw [rvS_val]; omega)]
theorem duties_later (g : GSem nD τ sig) : ∀ r, 1 ≤ r → (Rd D).duties g r = ∅ :=
  fun r hr => by dsimp only [Rd]; exact if_neg fun h => by omega

theorem amount_bar (d : Fin 3) : (Rd D).amount (bCell c) 0 d = 1 := rfl
theorem amount_send (d : Fin 3) : (Rd D).amount (sCell c k) 0 d = N := rfl
theorem amount_recv (d : Fin 3) : (Rd D).amount (rCell c k) 0 d = N := rfl

theorem expect_bar : (Rd D).expect (bCell c) 0 = 3 := by
  unfold Schedule.expect Schedule.amountOf; rw [duties_bar, Finset.sum_congr rfl fun d _ => amount_bar D c d]; rfl
theorem expect_send : (Rd D).expect (sCell c k) 0 = N := by
  unfold Schedule.expect Schedule.amountOf; rw [duties_send, Finset.sum_singleton, amount_send]
theorem expect_recv : (Rd D).expect (rCell c k) 0 = N := by
  unfold Schedule.expect Schedule.amountOf; rw [duties_recv, Finset.sum_singleton, amount_recv]

theorem payload_bar (d : Fin 3) : (Rd D).payload (bCell c) 0 d = barPay c d := rfl
theorem payload_recv (d : Fin 3) : (Rd D).payload (rCell c k) 0 d = recvPay D c k := by
  show payOf D c (.dma (rvS k.val k.isLt)) d = _
  have hv := rvS_val k.val k.isLt
  have hk := k.isLt
  dsimp only [payOf]
  rw [dif_pos (⟨by omega, by omega⟩)]
  congr 1; exact Fin.ext (by show (rvS k.val k.isLt).val - 28 = k.val; omega)
theorem payload_send (d : Fin 3) : (Rd D).payload (sCell c k) 0 d = sendPay D c k := by
  show payOf D c (.dma (sdS k.val k.isLt)) d = _
  have hv := sdS_val k.val k.isLt
  have hk := k.isLt
  dsimp only [payOf]
  rw [dif_neg (fun h => by omega), dif_pos (⟨by omega, by omega⟩)]
  congr 1; exact Fin.ext (by show (sdS k.val k.isLt).val - 10 = k.val; omega)

theorem rest_bar : bigSep ((Rd D).duties (bCell c) 0 \ ∅) (fun d => (Rd D).payload (bCell c) 0 d)
    = bigSep Finset.univ fun d => barPay (F := F) c d := by
  rw [Finset.sdiff_empty, duties_bar]; rfl
theorem rest_send : bigSep ((Rd D).duties (sCell c k) 0 \ ∅) (fun d => (Rd D).payload (sCell c k) 0 d) = sendPay D c k := by
  rw [Finset.sdiff_empty, duties_send, bigSep_singleton, payload_send]
theorem rest_recv : bigSep ((Rd D).duties (rCell c k) 0 \ ∅) (fun d => (Rd D).payload (rCell c k) 0 d) = recvPay D c k := by
  rw [Finset.sdiff_empty, duties_recv, bigSep_singleton, payload_recv]

end Sched

/-! ## The copies still ahead, and those behind -/

/-- The copies from number `n` on. -/
def rest (n : ℕ) : Finset (Fin 18) := Finset.univ.filter fun k => n ≤ k.val
/-- The copies before number `n`. -/
def past (n : ℕ) : Finset (Fin 18) := Finset.univ.filter fun k => k.val < n
/-- The copies from number `a` on and before number `b`. -/
def among (a b : ℕ) : Finset (Fin 18) := Finset.univ.filter fun k => a ≤ k.val ∧ k.val < b

theorem mem_rest {n : ℕ} {k : Fin 18} : k ∈ rest n ↔ n ≤ k.val := by simp [rest]
theorem mem_past {n : ℕ} {k : Fin 18} : k ∈ past n ↔ k.val < n := by simp [past]
theorem mem_among {a b : ℕ} {k : Fin 18} : k ∈ among a b ↔ a ≤ k.val ∧ k.val < b := by simp [among]

theorem rest_zero : rest 0 = Finset.univ := by ext k; simp [mem_rest]
theorem rest_all : rest 18 = ∅ := by ext k; simp [mem_rest]
theorem past_zero : past 0 = ∅ := by ext k; simp [mem_past]
theorem past_all : past 18 = Finset.univ := by ext k; simp [mem_past]
theorem among_self (a : ℕ) : among a a = ∅ := by ext k; simp [mem_among]

theorem rest_eq {n : ℕ} (h : n < 18) : rest n = insert ⟨n, h⟩ (rest (n + 1)) := by
  ext k; rw [Finset.mem_insert, mem_rest, mem_rest, Fin.ext_iff]; show n ≤ k.val ↔ k.val = n ∨ _; omega
theorem not_mem_rest {n : ℕ} (h : n < 18) : (⟨n, h⟩ : Fin 18) ∉ rest (n + 1) := by rw [mem_rest]; exact Nat.not_succ_le_self n
theorem past_eq {n : ℕ} (h : n < 18) : past (n + 1) = insert ⟨n, h⟩ (past n) := by
  ext k; rw [Finset.mem_insert, mem_past, mem_past, Fin.ext_iff]; show k.val < n + 1 ↔ k.val = n ∨ _; omega
theorem not_mem_past {n : ℕ} (h : n < 18) : (⟨n, h⟩ : Fin 18) ∉ past n := by rw [mem_past]; exact Nat.lt_irrefl n
theorem among_push {a n : ℕ} (h : n < 18) (ha : a ≤ n) : among a (n + 1) = insert ⟨n, h⟩ (among a n) := by
  ext k; rw [Finset.mem_insert, mem_among, mem_among, Fin.ext_iff]; show _ ↔ k.val = n ∨ _; omega
theorem not_mem_among_push {a n : ℕ} (h : n < 18) : (⟨n, h⟩ : Fin 18) ∉ among a n := by rw [mem_among]; exact fun h' => Nat.lt_irrefl n h'.2
theorem among_pop {a n : ℕ} (h : a < 18) (ha : a < n) : among a n = insert ⟨a, h⟩ (among (a + 1) n) := by
  ext k; rw [Finset.mem_insert, mem_among, mem_among, Fin.ext_iff]; show _ ↔ k.val = a ∨ _; omega
theorem not_mem_among_pop {a n : ℕ} (h : a < 18) : (⟨a, h⟩ : Fin 18) ∉ among (a + 1) n := by
  rw [mem_among]; exact fun h' => Nat.not_succ_le_self a h'.1

/-! ## What a device owes; the levels -/

/-- The credit that copy `k` of `c` will bring. -/
def due (c : Dev nD) (k : Fin 18) : CellTallies nD τ sig Unit := tallyAt (rCell (mate k.val c) k) () N
/-- What `c` owes when it has still to send the copies from number `n` on. -/
def Ow (n : ℕ) (c : Dev nD) : CellTallies nD τ sig Unit := ∑ k ∈ rest n, due c k
/-- The unit that `c` brings to the barrier of `step d c`. -/
def knock (c : Dev nD) (d : ℕ) : CellTallies nD τ sig Unit := tallyAt (bCell (step d c)) () 1
/-- What `c` owes at the launch: every copy and the three barrier units. -/
def O₀ (c : Dev nD) : CellTallies nD τ sig Unit := Ow 0 c + knock c 2 + knock c 1 + knock c 0

theorem Ow_eq (c : Dev nD) {n : ℕ} (h : n < 18) : Ow n c = Ow (n + 1) c + due c ⟨n, h⟩ := by
  unfold Ow; rw [rest_eq h, Finset.sum_insert (not_mem_rest h), add_comm]
theorem Ow_all (c : Dev nD) : Ow 18 c = 0 := by unfold Ow; rw [rest_all, Finset.sum_empty]

def L (g : GSem nD τ sig) : Finset Unit := if g.1.2 = .tc then {()} else ∅
/-- Staging, loads and sending cells lowest, then the barrier, then the receiving cells in the order they are waited for. -/
def lv (g : GSem nD τ sig) (_ : Unit) : ℕ :=
  match g.2 with
  | .reg _ => 1
  | .dma q => if 28 ≤ q.val then 2 + (q.val - 28) else 0
theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (bCell c) u = 1 := rfl
theorem lv_recv (c : Dev nD) (k : Fin 18) (u : Unit) : lv (rCell c k) u = 2 + k.val := by
  have hv := rvS_val k.val k.isLt
  dsimp only [lv]; rw [if_pos (by omega)]; omega
theorem lv_low (c : Dev nD) (q : DmaSem sig) (h : q.val < 28) (u : Unit) : lv ((c : Thread nD τ), .dma q) u = 0 := by
  dsimp only [lv]; rw [if_neg (by omega)]

theorem tally_pos {g g' : GSem nD τ sig} {u u' : Unit} {n : ℕ} (h : 0 < (tallyAt g u n : CellTallies nD τ sig Unit) g' u') : g' = g := by
  rw [tallyAt_apply] at h
  by_contra hn
  rw [if_neg (fun h' => hn h'.1)] at h
  exact Nat.lt_irrefl 0 h

theorem sum_tally_apply {I : Type} (s : Finset I) (f : I → CellTallies nD τ sig Unit) (g : GSem nD τ sig) (u : Unit) :
    (∑ i ∈ s, f i) g u = ∑ i ∈ s, f i g u := by
  rw [Finset.sum_apply, Finsupp.finset_sum_apply]

/-- The only cells a device owes credit to: receiving cells of copies not yet sent. -/
theorem Ow_pos {n : ℕ} {c : Dev nD} {g : GSem nD τ sig} {u : Unit} (h : 0 < Ow n c g u) :
    ∃ (d : Dev nD) (k : Fin 18), g = rCell d k ∧ n ≤ k.val := by
  unfold Ow at h
  rw [sum_tally_apply] at h
  obtain ⟨k, hk, hp⟩ := Finset.exists_ne_zero_of_sum_ne_zero (Nat.ne_of_gt h)
  exact ⟨mate k.val c, k, tally_pos (Nat.pos_of_ne_zero hp), mem_rest.mp hk⟩

/-- A cell of level at most `a` may be waited for while only receiving cells from number `n` on are owed. -/
theorem mayWait (c : Dev nD) (sm : SemLoc sig) (a n : ℕ) (hs : ∀ u, lv ((c : Thread nD τ), sm) u ≤ a) (hn : a < 2 + n) :
    (levAts L lv : sProp 𝕄) ⊢ MayWait (c : Thread nD τ) sm () (Ow n c) :=
  MayOwe.of_cut (L := L) (lev := lv) a (fun p hp => by rw [Finset.mem_singleton.mp hp, L_tc]; exact Finset.mem_singleton_self _)
    (fun g u hg => by obtain ⟨d, k, rfl, _⟩ := Ow_pos hg; exact Finset.mem_singleton_self _)
    (fun p hp => by rw [Finset.mem_singleton.mp hp]; exact hs _)
    (fun g u hg => by obtain ⟨d, k, rfl, hk⟩ := Ow_pos hg; rw [lv_recv]; omega)

theorem O₀_pos {c : Dev nD} {g : GSem nD τ sig} {u : Unit} (h : 0 < O₀ c g u) : g.1.2 = .tc ∧ 0 < lv g u := by
  unfold O₀ at h
  simp only [Pi.add_apply, Finsupp.add_apply] at h
  have h4 : 0 < Ow 0 c g u ∨ 0 < knock c 2 g u ∨ 0 < knock c 1 g u ∨ 0 < knock c 0 g u := by omega
  rcases h4 with h | h | h | h
  · obtain ⟨d, k, rfl, _⟩ := Ow_pos h; exact ⟨rfl, by rw [lv_recv]; omega⟩
  all_goals rw [tally_pos h]; exact ⟨rfl, Nat.one_pos⟩

/-- Staging cells may be waited for at the launch and at the end. -/
theorem mayWait_stage (c : Dev nD) (q : DmaSem sig) (hq : q.val < 28) (O : CellTallies nD τ sig Unit) (hO : O = O₀ c ∨ O = 0) :
    (levAts L lv : sProp 𝕄) ⊢ MayWait (c : Thread nD τ) (.dma q) () O := by
  rcases hO with rfl | rfl
  · exact MayOwe.of_cut (L := L) (lev := lv) 0 (fun p hp => by rw [Finset.mem_singleton.mp hp, L_tc]; exact Finset.mem_singleton_self _)
      (fun g u hg => by unfold L; rw [if_pos (O₀_pos hg).1]; exact Finset.mem_singleton_self _)
      (fun p hp => by rw [Finset.mem_singleton.mp hp, lv_low c q hq])
      (fun g u hg => (O₀_pos hg).2)
  · rw [MayWait_zero]; iintro -; iempintro

end Cert.Exchange

end
-- ==== Proof.Access.lean ====
/- One operation at a time, over buffers held by slices: loads, stores, and the copies from the arrays into the
   weight buffers. -/
module

public import proofs.«01_k».proof.Proof.Protocol
public import Idealize.ShloMosaic.Lib.Tactic

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers (Flight)

variable {F : FTy → Type} [FloatOps F]

local notation "𝕄" => MT nD τ sig Unit (Elt F) ℕ UU ℕ

abbrev 𝒱₀ : Variants := Variants.none

/-- A program on device `c` with a postcondition. -/
abbrev Runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable {sp : CoreSpace} {s s' : Shape} {e : EltTy} (c : Dev nD) {α : Type} {Q : α → sProp (MT nD τ sig Unit (Elt F) ℕ UU ℕ)}

/-- A load through a slice that is held reads what the slice holds. -/
theorem wp_loadS {m : Memref sig .tc sp s e} {r : Rect s} (hr : ∀ a, r.stride a = 1) {hl : m.view.LoadsAt r.toLoadRect}
    {k : (r.shape.Idx → Elt F e) → Prog (TpuEff nD τ sig (Elt F) Λ₀ .tc) α} {q : PosShare TreeShare} {X : r.shape.Idx → Elt F e} :
    (owns (c : Thread nD τ) (m.slice r hr) q X : sProp 𝕄)
      ⊢ iprop((owns (c : Thread nD τ) (m.slice r hr) q X -∗ Runs c (k X) Q)
        -∗ Runs c (.op (.load m r.toLoadRect hl) k) Q) := by
  unfold owns
  iintro ⟨%f, %hf, H⟩ Hk
  iapply (wp_load_rect 𝒱₀ (c : Thread nD τ) none Set.univ (m := m) (r := r) (Finset.Subset.refl _)) $$ H
  iintro H
  rw [show (m.access r).read (Elt F) f = X from hf]
  iapply Hk
  iexists f
  isplitr; · ipureintro; exact hf
  iexact H

/-- A store through a slice that is held leaves it holding what was stored. -/
theorem wp_storeS {m : Memref sig .tc sp s e} {r : Rect s} (hr : ∀ a, r.stride a = 1) {w : r.shape.Idx → Elt F e}
    {hx : (m.access r).Stores Finset.univ} {hm : (Finset.univ : Finset r.shape.Idx) = Finset.univ ∨ ∀ a, r.stride a = 1}
    {k : PUnit → Prog (TpuEff nD τ sig (Elt F) Λ₀ .tc) α} {X : r.shape.Idx → Elt F e} :
    (owns (c : Thread nD τ) (m.slice r hr) fullShare X : sProp 𝕄)
      ⊢ iprop((owns (c : Thread nD τ) (m.slice r hr) fullShare w -∗ Runs c (k ⟨⟩) Q)
        -∗ Runs c (.op (.store m r w Finset.univ hx hm) k) Q) := by
  unfold owns
  iintro ⟨%f, %hf, H⟩ Hk
  iapply (wp_store 𝒱₀ (c : Thread nD τ) none Set.univ (m := m) (r := r) (Mk := Finset.univ) (S := (m.access r).set) (Finset.Subset.refl _)) $$ H
  iintro H
  iapply Hk
  iexists _
  isplitr; · ipureintro; exact (m.access r).read_write_univ f w
  iexact H

/-- Dropping an axis of one keeps the elements; what is read is the same values in the other shape. -/
theorem owns_squeeze {sp : Space} (c : Thread nD τ) (m : Memref sig c.2.kind sp s e) (hq : s.Squeezes s') (q : PosShare TreeShare) (X : s.Idx → Elt F e) :
    (owns c m q X : sProp 𝕄) ⊢ owns c (m.squeeze s' hq) q (fun i => X (Shape.reshapeEquiv hq.numel_eq i)) := by
  unfold owns
  iintro ⟨%f, %hf, H⟩
  iexists f
  isplitr; · ipureintro; subst hf; rfl
  rw [show (m.squeeze s' hq).view.set = m.view.set from m.view.set_reshape _]
  iexact H
theorem owns_unsqueeze {sp : Space} (c : Thread nD τ) (m : Memref sig c.2.kind sp s e) (hq : s.Squeezes s') (q : PosShare TreeShare) (X : s.Idx → Elt F e) :
    (owns c (m.squeeze s' hq) q (fun i => X (Shape.reshapeEquiv hq.numel_eq i)) : sProp 𝕄) ⊢ owns c m q X := by
  unfold owns
  iintro ⟨%f, %hf, H⟩
  iexists f
  isplitr
  · ipureintro
    funext j
    have h := congrFun hf ((Shape.reshapeEquiv hq.numel_eq).symm j)
    simp only [Equiv.apply_symm_apply] at h
    rw [← h]
    show _ = m.view.read (Elt F) f (Shape.reshapeEquiv hq.numel_eq ((Shape.reshapeEquiv hq.numel_eq).symm j))
    rw [Equiv.apply_symm_apply]
  rw [show m.view.set = (m.squeeze s' hq).view.set from (m.view.set_reshape _).symm]
  iexact H

/-! ## Copies from the arrays into the weight buffers -/

/-- The counters of the local copies. -/
abbrev EC : UEmb Counters (MT nD τ sig Unit (Elt F) ℕ UU ℕ) := countersEmb

/-- A copy under way on semaphore `sm`: it will hand back its source and hand over its destination, holding what the
    source holds. -/
def Fetching {sp sp' : Space} (sm : DmaSem sig) (src : Memref sig .tc sp s e) (dst : Memref sig .tc sp' s e)
    (fs : Buf (Elt F) (src.view.loc (c : Thread nD τ))) : sProp 𝕄 :=
  iprop(∃ n, ⌜dst.view.dmaCredit = n⌝ ∗ Flight EC (c : Thread nD τ) (.dma sm) () n
    iprop(owns (c : Thread nD τ) dst fullShare (src.view.read (Elt F) fs) ∗ (src.view.loc (c : Thread nD τ) ↦[src.view.set]{fullShare} fs)))

/-- Starting a copy. -/
theorem wp_fetch {sp sp' : Space} {src : Memref sig .tc sp s e} {dst : Memref sig .tc sp' s e} {sm : DmaSem sig}
    {hsrc : src.view.WordExact} {hdst : dst.view.WordExact} {hsem : DmaTarget.Typed sp (.dma sm) (.here dst : DmaTarget nD τ sig .tc sp' s e)}
    {k : PUnit → Prog (TpuEff nD τ sig (Elt F) Λ₀ .tc) α} {fs : Buf (Elt F) (src.view.loc (c : Thread nD τ))}
    (hn : 0 < s.numel) :
    iprop((src.view.loc (c : Thread nD τ) ↦[src.view.set]{fullShare} fs) ∗ (∃ X, owns (c : Thread nD τ) dst fullShare X)
        ∗ semVal ((c : Thread nD τ), .dma sm) 0)
      ⊢ iprop((Fetching c sm src dst fs -∗ Runs c (k ⟨⟩) Q)
        -∗ Runs c (.op (.enqueueDma src (.here dst) (.dma sm) hsrc hdst hsem) k) Q) := by
  iintro ⟨Hs, ⟨%X, Hd⟩, Hv⟩ Hk
  unfold owns
  icases Hd with ⟨%fd, %hfd, Hd⟩
  iapply (Transfers.wp_dmaLocal EC 𝒱₀ (c : Thread nD τ) none () dst.view.dmaCredit rfl (View.dmaCredit_pos _ hn) (Finset.Subset.refl _)) $$ [Hs Hd Hv]
  · isplitl [Hs]; · iexact Hs
    isplitl [Hd]; · iexact Hd
    iexact Hv
  iintro HF
  iapply Hk
  unfold Fetching
  iexists dst.view.dmaCredit
  isplitr; · ipureintro; rfl
  iapply (Transfers.Flight_mono EC (c : Thread nD τ) (sm := .dma sm) (ι := ()) (N := dst.view.dmaCredit) ?_) $$ HF
  iintro ⟨Hd, Hs⟩
  isplitl [Hd]
  · unfold owns
    iexists _
    isplitr; swap; · iexact Hd
    ipureintro
    exact dst.view.read_write_univ _ _
  iexact Hs

/-- Waiting for a copy that is under way. -/
theorem wp_fetched {sp sp' : Space} {src : Memref sig .tc sp s e} {dst : Memref sig .tc sp' s e} {sm : DmaSem sig}
    {hsrc : src.view.WordExact} {hdst : dst.view.WordExact}
    {k : PUnit → Prog (TpuEff nD τ sig (Elt F) Λ₀ .tc) α} {fs : Buf (Elt F) (src.view.loc (c : Thread nD τ))}
    {O : CellTallies nD τ sig Unit} {W : Waits sig Unit} :
    iprop(Fetching c sm src dst fs ∗ owes (c : Thread nD τ) O W ∗ MayWait (c : Thread nD τ) (.dma sm) () O)
      ⊢ iprop((iprop((owns (c : Thread nD τ) dst fullShare (src.view.read (Elt F) fs) ∗ (src.view.loc (c : Thread nD τ) ↦[src.view.set]{fullShare} fs))
            ∗ semVal ((c : Thread nD τ), .dma sm) 0 ∗ owes (c : Thread nD τ) O (insert (SemLoc.dma sm, ()) W)) -∗ Runs c (k ⟨⟩) Q)
        -∗ Runs c (.op (.waitDma2 sm src dst hsrc hdst) k) Q) := by
  unfold Fetching
  iintro ⟨⟨%n, %hn, HF⟩, HO, HM⟩ Hk
  iapply (Transfers.wp_waitLocalO EC 𝒱₀ (c : Thread nD τ) none () hn) $$ [HF HO HM]
  · isplitl [HF]; · iexact HF
    isplitl [HO]; · iexact HO
    iexact HM
  iexact Hk

end Cert.Exchange

end
-- ==== Proof.Steps.lean ====
/- The exchange, step by step: sending a copy, waiting for a pair, and the three patterns the kernel is made of. -/
module

public import proofs.«01_k».proof.Proof.Access

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem bigSep_put {I : Type} [DecidableEq I] {S : Finset I} {i : I} (hi : i ∉ S) (Φ : I → sProp 𝕄) :
    bigSep (insert i S) Φ = iprop(Φ i ∗ bigSep S Φ) := BI.bigSep_insert hi

theorem bigSep_both {I : Type} [DecidableEq I] {S T : Finset I} (h : Disjoint S T) (Φ : I → sProp 𝕄) :
    bigSep (S ∪ T) Φ = iprop(bigSep S Φ ∗ bigSep T Φ) := BI.bigSep_union h

theorem sep_regroup (A B C : sProp 𝕄) : iprop(A ∗ B ∗ C) = iprop((A ∗ B) ∗ C) :=
  BI.Entails.antisymm
    (show iprop(A ∗ B ∗ C) ⊢ iprop((A ∗ B) ∗ C) by
      iintro ⟨HA, HB, HC⟩; isplitl [HA HB]; · isplitl [HA]; · iexact HA
                                              iexact HB
      iexact HC)
    (show iprop((A ∗ B) ∗ C) ⊢ iprop(A ∗ B ∗ C) by
      iintro ⟨⟨HA, HB⟩, HC⟩; isplitl [HA]; · iexact HA
      isplitl [HB]; · iexact HB
      iexact HC)

variable (D : Data F) (κ : GSem nD τ sig → ℕ)

/-! ## What every device knows, and where it stands -/

/-- Every cell's invariant and its first round, and the levels. -/
def known : sProp 𝕄 :=
  iprop((bigSep Finset.univ fun x : Dev nD × Ci => cellInv ER (Rd D) (κ (cellAt x)) (cellAt x))
    ∗ (bigSep Finset.univ fun x : Dev nD × Ci => reached ER (cellAt x) 0) ∗ levAts L lv)
instance known_persistent : BI.Persistent (known D κ) := by unfold known; infer_instance

theorem known_inv (x : Dev nD × Ci) : known D κ ⊢ cellInv ER (Rd D) (κ (cellAt x)) (cellAt x) := by
  unfold known; exact sep_elim_left.trans (bigSep_elim (Finset.mem_univ x))
theorem known_reached (x : Dev nD × Ci) : known D κ ⊢ reached ER (cellAt x) 0 := by
  unfold known; exact sep_elim_right.trans (sep_elim_left.trans (bigSep_elim (Finset.mem_univ x)))
theorem known_lev : known D κ ⊢ levAts L lv := by
  unfold known; exact sep_elim_right.trans sep_elim_right

/-- What a copy still to be sent needs. -/
def fuel (c : Dev nD) (k : Fin 18) : sProp 𝕄 :=
  iprop(dutyTok ER (sCell c k) 0 0 ∗ dutyTok ER (rCell (mate k.val c) k) 0 0 ∗ anySlot (mate k.val c) k)
/-- What the waits for a pair still to come need. -/
def seat (c : Dev nD) (k : Fin 18) : sProp 𝕄 :=
  iprop(atPos ER (sCell c k) 0 ∅ 0 ∗ atPos ER (rCell c k) 0 ∅ 0 ∗ cred (tallyAt (rCell c k) () N))
/-- What is left of a pair that has been waited for. -/
def ash (c : Dev nD) (k : Fin 18) : sProp 𝕄 :=
  iprop(semVal (sCell c k) 0 ∗ semVal (rCell c k) 0 ∗ anySlot c k)

/-- Device `c` has sent the copies before number `n` and waited for the pairs before number `d`; `T` is what it has of
    the pairs waited for. -/
def StW (T : Finset (Fin 18)) (n d : ℕ) (c : Dev nD) : sProp 𝕄 :=
  iprop((∃ W, owes (c : Thread nD τ) (Ow n c) W)
    ∗ bigSep (rest n) (fuel (F := F) c) ∗ bigSep (rest d) (seat (F := F) c)
    ∗ (bigSep (among d n) fun k => cred (tallyAt (sCell c k) () N)) ∗ bigSep T (ash (F := F) c))
abbrev St (n d : ℕ) (c : Dev nD) : sProp 𝕄 := StW (F := F) (past d) n d c

variable (c : Dev nD) {α : Type} {Q : α → sProp (MT nD τ sig Unit (Elt F) ℕ UU ℕ)}

theorem StW_owes (T : Finset (Fin 18)) (n d : ℕ) :
    StW (F := F) T n d c ⊢ iprop((∃ W, owes (c : Thread nD τ) (Ow n c) W) ∗ ((∃ W, owes (c : Thread nD τ) (Ow n c) W) -∗ StW (F := F) T n d c)) := by
  unfold StW
  iintro ⟨H, Hr⟩
  isplitl [H]; · iexact H
  iintro H
  isplitl [H]; · iexact H
  iexact Hr

/-- Every landing slot is a copy's worth. -/
theorem slot_amount (k : ℕ) (hk : k < 18) : (rQ k hk).view.amount (SemLoc.dma (rvS k hk)) = N := rfl

set_option maxHeartbeats 2000000 in
/-- Sending copy `k`. -/
theorem wp_copy (k q d : ℕ) (hk : k < 18) (hq : q < 2) (hkq : k % 2 = q) (hd : d ≤ k) (n : Dev nD) (hn : n = mate k c)
    {hsc : (rQ k hk).view.ref.isScScratch = false}
    {hsrc : (sQ q hq).view.WordExact} {hdst : (rQ k hk).view.WordExact}
    {hsem : DmaTarget.Typed .vmem (.dma (rvS k hk)) (.remote (Dev.tc n : Thread nD τ) (rQ k hk) (.dma (sdS k hk)) hsc)}
    {K : PUnit → Prog (TpuEff nD τ sig (Elt F) Λ₀ .tc) α} :
    iprop(known D κ ∗ St (F := F) k d c ∗ owns (c : Thread nD τ) (sS q hq) fullShare (sent D k c))
      ⊢ iprop((St (F := F) (k + 1) d c -∗ Runs c (K ⟨⟩) Q)
        -∗ Runs c (.op (.enqueueDma (sQ q hq) (.remote (Dev.tc n : Thread nD τ) (rQ k hk) (.dma (sdS k hk)) hsc) (.dma (rvS k hk)) hsrc hdst hsem) K) Q) := by
  subst hkq hn
  unfold St StW
  rw [rest_eq hk, bigSep_put (not_mem_rest hk), among_push hk hd, bigSep_put (not_mem_among_push hk)]
  unfold fuel anySlot
  iintro ⟨#HK, ⟨⟨%W, HO⟩, ⟨⟨Ht, Htm, ⟨%X, Hdst⟩⟩, Hfuel⟩, Hseat, Hcr, Hash⟩, Hsrc⟩ Hk
  ihave Hsrc := (owns_squeeze (c : Thread nD τ) (sS (k % 2) hq) squeezes_S1x64x512_S64x512 fullShare (sent D k c)) $$ Hsrc
  ihave Hdst := (owns_squeeze (mate k c : Thread nD τ) (rS k hk) squeezes_S1x64x512_S64x512 fullShare X) $$ Hdst
  unfold owns
  icases Hsrc with ⟨%fs, %hfs, Hsrc⟩
  icases Hdst with ⟨%fd, %hfd, Hdst⟩
  have hp1 : ((sQ (k % 2) hq).view.loc (c : Thread nD τ) ↦[(sQ (k % 2) hq).view.set]{fullShare} fs : sProp 𝕄) ⊢ (Rd D).payload (sCell c ⟨k, hk⟩) 0 0 := by
    rw [payload_send D c ⟨k, hk⟩]; unfold sendPay
    refine BIBase.Entails.trans ?_ (owns_unsqueeze (c : Thread nD τ) (sS (k % 2) hq) squeezes_S1x64x512_S64x512 fullShare (sent D k c))
    unfold owns
    iintro H; iexists fs
    isplitr; · ipureintro; exact hfs
    iexact H
  have hp2 : ((rQ k hk).view.loc (mate k c : Thread nD τ) ↦[(rQ k hk).view.set]{fullShare}
      ((rQ k hk).view.write (Elt F) fd ((sQ (k % 2) hq).view.read (Elt F) fs) Finset.univ) : sProp 𝕄) ⊢ (Rd D).payload (rCell (mate k c) ⟨k, hk⟩) 0 0 := by
    rw [payload_recv D (mate k c) ⟨k, hk⟩]; unfold recvPay
    refine BIBase.Entails.trans ?_ (owns_unsqueeze (mate k c : Thread nD τ) (rS k hk) squeezes_S1x64x512_S64x512 fullShare (sent D k (mate k (mate k c))))
    unfold owns
    iintro H; iexists _
    isplitr; swap; · iexact H
    ipureintro
    exact ((rQ k hk).view.read_write_univ _ _).trans (by rw [hfs, show mate k (mate k c) = c from step_step _ _])
  iapply (Rounds.wp_send_pointsTo 𝒱₀ ER (Rd D) (c : Thread nD τ) none (c' := (mate k c : Thread nD τ)) (sp := .vmem) (sp' := .vmem) (s := S64x512) (e := .bf16) (src := sQ (k % 2) hq) (dst := rQ k hk) (sS := .dma (sdS k hk)) (sem := .dma (rvS k hk))
      (fs := fs) (fd := fd) (κ₁ := κ (sCell c ⟨k, hk⟩)) (κ₂ := κ (rCell (mate k c) ⟨k, hk⟩))
      (r₁ := 0) (r₂ := 0) (d₁ := 0) (d₂ := 0)
      (by rw [duties_send D c ⟨k, hk⟩]; exact Finset.mem_singleton_self _) (by rw [duties_recv D (mate k c) ⟨k, hk⟩]; exact Finset.mem_singleton_self _)
      () () N (slot_amount k hk) (amount_send D c ⟨k, hk⟩ 0) (amount_recv D (mate k c) ⟨k, hk⟩ 0) (Ow (k + 1) c) (Ow_eq c hk) (W := W) hp1 hp2)
    $$ [Hsrc Hdst HO Ht Htm]
  · isplitr; · iapply (known_inv D κ (c, .inr (.inl ⟨k, hk⟩))); iexact HK
    isplitr; · iapply (known_inv D κ (mate k c, .inr (.inr ⟨k, hk⟩))); iexact HK
    isplitl [Hsrc]; · iexact Hsrc
    isplitl [Hdst]; · iexact Hdst
    isplitl [HO]; · iexact HO
    isplitl [Ht]; · iexact Ht
    isplitr; · iapply (known_reached D κ (c, .inr (.inl ⟨k, hk⟩))); iexact HK
    isplitl [Htm]; · iexact Htm
    iapply (known_reached D κ (mate k c, .inr (.inr ⟨k, hk⟩))); iexact HK
  iintro ⟨Hc, HO⟩
  iapply Hk
  isplitl [HO]; · iexists W; iexact HO
  isplitl [Hfuel]; · iexact Hfuel
  isplitl [Hseat]; · iexact Hseat
  isplitl [Hc Hcr]
  · isplitl [Hc]; · iexact Hc
    iexact Hcr
  iexact Hash

/-- Waiting until copy `k` has left and its counterpart has landed. -/
theorem wp_pair (k q n : ℕ) (hk : k < 18) (hq : q < 2) (hkq : k % 2 = q) (hn : k < n)
    {h1 : (rQ k hk).view.WordExact} {h2 : (sQ q hq).view.WordExact} {h3 : (sQ q hq).view.WordExact} {h4 : (rQ k hk).view.WordExact}
    {K : PUnit → Prog (TpuEff nD τ sig (Elt F) Λ₀ .tc) α} :
    iprop(known D κ ∗ St (F := F) n k c)
      ⊢ iprop((iprop(StW (F := F) (past k) n (k + 1) c ∗ semVal (sCell c ⟨k, hk⟩) 0 ∗ semVal (rCell c ⟨k, hk⟩) 0
            ∗ owns (c : Thread nD τ) (sS q hq) fullShare (sent D k c)
            ∗ owns (c : Thread nD τ) (rS k hk) fullShare (sent D k (mate k c))) -∗ Runs c (K ⟨⟩) Q)
        -∗ Runs c (.op (.waitDma2 (sdS k hk) (rQ k hk) (sQ q hq) h1 h2) fun _ =>
            .op (.waitDma2 (rvS k hk) (sQ q hq) (rQ k hk) h3 h4) K) Q) := by
  subst hkq
  unfold St StW
  rw [rest_eq (n := k) hk, bigSep_put (not_mem_rest hk), among_pop hk hn, bigSep_put (not_mem_among_pop hk)]
  iintro ⟨#HK, ⟨⟨%W, HO⟩, Hfuel, ⟨Hs, Hseat⟩, ⟨Hc, Hcr⟩, Hash⟩⟩ Hk
  ihave Hs := (show seat c ⟨k, hk⟩ ⊢ iprop(atPos ER (sCell c ⟨k, hk⟩) 0 ∅ 0 ∗ atPos ER (rCell c ⟨k, hk⟩) 0 ∅ 0 ∗ cred (tallyAt (rCell c ⟨k, hk⟩) () N)) from .rfl) $$ Hs
  icases Hs with ⟨HaS, HaR, HcR⟩
  iapply (Rounds.wp_wait_rest_token 𝒱₀ ER (Rd D) (c : Thread nD τ) none (κ := κ (sCell c ⟨k, hk⟩))
      (wpE_waitDma2_eq 𝒱₀ (c : Thread nD τ) none Set.univ) (Set.mem_univ _) () (O := Ow n c) (W := W) (R := 0) (m := 0) (T := ∅)
      (by rw [Nat.zero_add, expect_send D c ⟨k, hk⟩])) $$ [Hc HO HaS]
  · isplitr; · iapply (known_inv D κ (c, .inr (.inl ⟨k, hk⟩))); iexact HK
    isplitl [Hc]; · iexact Hc
    isplitl [HO]; · iexact HO
    isplitr
    · iapply (mayWait c (.dma (sdS k hk)) 0 n (fun u => le_of_eq (lv_low c _ (by rw [sdS_val]; omega) u)) (by omega))
      iapply (known_lev D κ); iexact HK
    iexact HaS
  iintro ⟨HO, HaS, -, Hpay⟩
  ihave Hsrc := (Entails.of_eq (rest_send D c ⟨k, hk⟩)) $$ Hpay
  iapply (Rounds.wp_wait_rest_token 𝒱₀ ER (Rd D) (c : Thread nD τ) none (κ := κ (rCell c ⟨k, hk⟩))
      (wpE_waitDma2_eq 𝒱₀ (c : Thread nD τ) none Set.univ) (Set.mem_univ _) () (O := Ow n c) (W := insert (SemLoc.dma (sdS k hk), ()) W) (R := 0) (m := 0) (T := ∅)
      (by rw [Nat.zero_add, expect_recv D c ⟨k, hk⟩])) $$ [HcR HO HaR]
  · isplitr; · iapply (known_inv D κ (c, .inr (.inr ⟨k, hk⟩))); iexact HK
    isplitl [HcR]; · iexact HcR
    isplitl [HO]; · iexact HO
    isplitr
    · iapply (mayWait c (.dma (rvS k hk)) (2 + k) n (fun u => le_of_eq (lv_recv c ⟨k, hk⟩ u)) (by omega))
      iapply (known_lev D κ); iexact HK
    iexact HaR
  iintro ⟨HO, HaR, -, Hpay⟩
  ihave Hdst := (Entails.of_eq (rest_recv D c ⟨k, hk⟩)) $$ Hpay
  imod (Rounds.cell_close ER (Rd D) (Set.mem_univ (κ (sCell c ⟨k, hk⟩))) (fun h => h) (R := 0 + 1) (duties_later D (sCell c ⟨k, hk⟩))) $$ [HaS] with HzS
  · isplitr; · iapply (known_inv D κ (c, .inr (.inl ⟨k, hk⟩))); iexact HK
    iexact HaS
  imod (Rounds.cell_close ER (Rd D) (Set.mem_univ (κ (rCell c ⟨k, hk⟩))) (fun h => h) (R := 0 + 1) (duties_later D (rCell c ⟨k, hk⟩))) $$ [HaR] with HzR
  · isplitr; · iapply (known_inv D κ (c, .inr (.inr ⟨k, hk⟩))); iexact HK
    iexact HaR
  iapply Hk
  isplitl [HO Hfuel Hseat Hcr Hash]
  · isplitl [HO]; · iexists _; iexact HO
    isplitl [Hfuel]; · iexact Hfuel
    isplitl [Hseat]; · iexact Hseat
    isplitl [Hcr]; · iexact Hcr
    iexact Hash
  isplitl [HzS]; · iexact HzS
  isplitl [HzR]; · iexact HzR
  isplitl [Hsrc]; · iapply (show sendPay D c ⟨k, hk⟩ ⊢ owns (c : Thread nD τ) (sS (k % 2) hq) fullShare (sent D k c) from .rfl); iexact Hsrc
  iapply (show recvPay D c ⟨k, hk⟩ ⊢ owns (c : Thread nD τ) (rS k hk) fullShare (sent D k (mate k c)) from .rfl); iexact Hdst

/-- A landing slot that has been read joins what is left of its pair. -/
theorem absorb (k n : ℕ) (hk : k < 18) (X : S1x64x512.Idx → Elt F .bf16) :
    iprop(StW (F := F) (past k) n (k + 1) c ∗ semVal (sCell c ⟨k, hk⟩) 0 ∗ semVal (rCell c ⟨k, hk⟩) 0
        ∗ owns (c : Thread nD τ) (rS k hk) fullShare X) ⊢ St (F := F) n (k + 1) c := by
  unfold St StW
  rw [past_eq hk, bigSep_put (not_mem_past hk)]
  iintro ⟨⟨HO, Hf, Hs, Hc, Ha⟩, HzS, HzR, HX⟩
  isplitl [HO]; · iexact HO
  isplitl [Hf]; · iexact Hf
  isplitl [Hs]; · iexact Hs
  isplitl [Hc]; · iexact Hc
  isplitl [HzS HzR HX]
  · unfold ash anySlot
    isplitl [HzS]; · iexact HzS
    isplitl [HzR]; · iexact HzR
    iexists X; iexact HX
  iexact Ha

/-- Waiting for a copy from an array while copies to other devices may be owed. -/
theorem wp_loaded (n d j : ℕ) (hj : j < 8) {sp sp' : Space} {s : Shape} {e : EltTy} {src : Memref sig .tc sp s e} {dst : Memref sig .tc sp' s e}
    {hsrc : src.view.WordExact} {hdst : dst.view.WordExact}
    {K : PUnit → Prog (TpuEff nD τ sig (Elt F) Λ₀ .tc) α} {fs : Buf (Elt F) (src.view.loc (c : Thread nD τ))} :
    iprop(known D κ ∗ St (F := F) n d c ∗ Fetching c (ldS j hj) src dst fs)
      ⊢ iprop((iprop(St (F := F) n d c ∗ owns (c : Thread nD τ) dst fullShare (src.view.read (Elt F) fs)
            ∗ (src.view.loc (c : Thread nD τ) ↦[src.view.set]{fullShare} fs) ∗ semVal ((c : Thread nD τ), .dma (ldS j hj)) 0) -∗ Runs c (K ⟨⟩) Q)
        -∗ Runs c (.op (.waitDma2 (ldS j hj) src dst hsrc hdst) K) Q) := by
  iintro ⟨#HK, HSt, HF⟩ Hk
  ihave H := (StW_owes c (past d) n d) $$ HSt
  icases H with ⟨⟨%W, HO⟩, Hback⟩
  iapply (wp_fetched c (O := Ow n c) (W := W)) $$ [HF HO]
  · isplitl [HF]; · iexact HF
    isplitl [HO]; · iexact HO
    iapply (mayWait c (.dma (ldS j hj)) 0 n (fun u => le_of_eq (lv_low c _ (by rw [ldS_val]; omega) u)) (by omega))
    iapply (known_lev D κ); iexact HK
  iintro ⟨⟨Hd, Hs⟩, Hv, HO⟩
  iapply Hk
  isplitl [HO Hback]
  · iapply Hback; iexists _; iexact HO
  isplitl [Hd]; · iexact Hd
  isplitl [Hs]; · iexact Hs
  iexact Hv

/-! ## The barrier -/

/-- The copies sorted by the step they take. -/
theorem by_leg (Φ : Fin 18 → sProp 𝕄) :
    bigSep Finset.univ Φ = iprop(bigSep (legs 0) Φ ∗ bigSep (legs 1) Φ ∗ bigSep (legs 2) Φ) := by
  rw [show (Finset.univ : Finset (Fin 18)) = legs 0 ∪ (legs 1 ∪ legs 2) from by decide,
    bigSep_both (by decide), bigSep_both (by decide)]

theorem by_step (Φ : Fin 3 → sProp 𝕄) : bigSep Finset.univ Φ = iprop(Φ 0 ∗ Φ 1 ∗ Φ 2) := by
  rw [show (Finset.univ : Finset (Fin 3)) = insert 0 (insert 1 {2}) from by decide,
    bigSep_put (by decide), bigSep_put (by decide), bigSep_singleton]

/-- The slots that the three partners hand over are the slots of all copies. -/
theorem slots_of_partners : (bigSep Finset.univ fun d => barPay (F := F) c d) = bigSep Finset.univ fun k => anySlot (F := F) (mate k.val c) k := by
  rw [by_step, by_leg]
  have h : ∀ d : Fin 3, barPay (F := F) c d = bigSep (legs d) fun k => anySlot (F := F) (mate k.val c) k := fun d => by
    unfold barPay
    refine bigSep_congr fun k hk => ?_
    rw [show mate k.val c = step d.val c from by unfold mate; rw [(Finset.mem_filter.mp hk).2]]
  rw [h, h, h]

/-- What a device hands to its partner of step `d`. -/
theorem own_slots (d : Fin 3) : barPay (F := F) (step d.val c) d = bigSep (legs d) fun k => anySlot (F := F) c k := by
  unfold barPay; rw [step_step]

/-- Before the barrier. -/
def StB (c : Dev nD) : sProp 𝕄 :=
  iprop((∃ W, owes (c : Thread nD τ) (O₀ c) W)
    ∗ (dutyTok ER (bCell (step 0 c)) 0 0 ∗ dutyTok ER (bCell (step 1 c)) 0 1 ∗ dutyTok ER (bCell (step 2 c)) 0 2)
    ∗ (bigSep Finset.univ fun k => anySlot (F := F) c k) ∗ (atPos ER (bCell c) 0 ∅ 0 ∗ cred (tallyAt (bCell c) () 3))
    ∗ (bigSep Finset.univ fun k : Fin 18 => iprop(dutyTok ER (sCell c k) 0 0 ∗ dutyTok ER (rCell (mate k.val c) k) 0 0))
    ∗ bigSep Finset.univ (seat (F := F) c))

theorem wp_knocks (n0 n1 n2 : Dev nD) (h0 : n0 = step 0 c) (h1 : n1 = step 1 c) (h2 : n2 = step 2 c)
    {K : PUnit → Prog (TpuEff nD τ sig (Elt F) Λ₀ .tc) α} :
    iprop(known D κ ∗ StB (F := F) c)
      ⊢ iprop((iprop(St (F := F) 0 0 c ∗ semVal (bCell c) 0) -∗ Runs c (K ⟨⟩) Q)
        -∗ Runs c (.op (.semSignal (n0, .tc) barS (1#32).toInt) fun _ => .op (.semSignal (n1, .tc) barS (1#32).toInt) fun _ =>
            .op (.semSignal (n2, .tc) barS (1#32).toInt) fun _ => .op (.semWait barS (3#32).toInt) K) Q) := by
  subst h0 h1 h2
  unfold StB
  iintro ⟨#HK, ⟨%W, HO⟩, ⟨Ht0, Ht1, Ht2⟩, Hsl, ⟨HaB, HcB⟩, Htok, Hseat⟩ Hk
  ihave Hsl := (Entails.of_eq (by_leg (fun k => anySlot (F := F) c k))) $$ Hsl
  icases Hsl with ⟨Hl0, Hl1, Hl2⟩
  iapply (Rounds.wp_signal 𝒱₀ ER (Rd D) (c : Thread nD τ) none (dst := (step 0 c : Thread nD τ)) (sem := barS) (r := 0) (d := 0) (k' := 1) (κ := κ (bCell (step 0 c)))
      (by rw [duties_bar D (step 0 c)]; exact Finset.mem_univ _) (amount_bar D (step 0 c) 0) () (Ow 0 c + knock c 2 + knock c 1) rfl) $$ [HO Ht0 Hl0]
  · isplitr; · iapply (known_inv D κ (step 0 c, .inl ())); iexact HK
    isplitl [HO]; · iexact HO
    isplitl [Ht0]; · iexact Ht0
    isplitl [Hl0]; · rw [payload_bar D (step 0 c)]; iapply (Entails.of_eq (own_slots c 0).symm); iexact Hl0
    iapply (known_reached D κ (step 0 c, .inl ())); iexact HK
  iintro HO
  iapply (Rounds.wp_signal 𝒱₀ ER (Rd D) (c : Thread nD τ) none (dst := (step 1 c : Thread nD τ)) (sem := barS) (r := 0) (d := 1) (k' := 1) (κ := κ (bCell (step 1 c)))
      (by rw [duties_bar D (step 1 c)]; exact Finset.mem_univ _) (amount_bar D (step 1 c) 1) () (Ow 0 c + knock c 2) rfl) $$ [HO Ht1 Hl1]
  · isplitr; · iapply (known_inv D κ (step 1 c, .inl ())); iexact HK
    isplitl [HO]; · iexact HO
    isplitl [Ht1]; · iexact Ht1
    isplitl [Hl1]; · rw [payload_bar D (step 1 c)]; iapply (Entails.of_eq (own_slots c 1).symm); iexact Hl1
    iapply (known_reached D κ (step 1 c, .inl ())); iexact HK
  iintro HO
  iapply (Rounds.wp_signal 𝒱₀ ER (Rd D) (c : Thread nD τ) none (dst := (step 2 c : Thread nD τ)) (sem := barS) (r := 0) (d := 2) (k' := 1) (κ := κ (bCell (step 2 c)))
      (by rw [duties_bar D (step 2 c)]; exact Finset.mem_univ _) (amount_bar D (step 2 c) 2) () (Ow 0 c) rfl) $$ [HO Ht2 Hl2]
  · isplitr; · iapply (known_inv D κ (step 2 c, .inl ())); iexact HK
    isplitl [HO]; · iexact HO
    isplitl [Ht2]; · iexact Ht2
    isplitl [Hl2]; · rw [payload_bar D (step 2 c)]; iapply (Entails.of_eq (own_slots c 2).symm); iexact Hl2
    iapply (known_reached D κ (step 2 c, .inl ())); iexact HK
  iintro HO
  iapply (Rounds.wp_wait_rest_token 𝒱₀ ER (Rd D) (c : Thread nD τ) none (sm := .reg barS) (k' := 3) (κ := κ (bCell c))
      (wpE_semWait_eq 𝒱₀ (c : Thread nD τ) none Set.univ) (Set.mem_univ _) () (O := Ow 0 c) (W := W) (R := 0) (m := 0) (T := ∅)
      (by rw [Nat.zero_add, expect_bar D c])) $$ [HcB HO HaB]
  · isplitr; · iapply (known_inv D κ (c, .inl ())); iexact HK
    isplitl [HcB]; · iexact HcB
    isplitl [HO]; · iexact HO
    isplitr
    · iapply (mayWait c (.reg barS) 1 0 (fun u => le_of_eq (lv_bar c u)) (by omega))
      iapply (known_lev D κ); iexact HK
    iexact HaB
  iintro ⟨HO, HaB, -, Hpay⟩
  ihave Hpay := (Entails.of_eq ((rest_bar D c).trans (slots_of_partners c))) $$ Hpay
  imod (Rounds.cell_close ER (Rd D) (Set.mem_univ (κ (bCell c))) (fun h => h) (R := 0 + 1) (duties_later D (bCell c))) $$ [HaB] with Hz
  · isplitr; · iapply (known_inv D κ (c, .inl ())); iexact HK
    iexact HaB
  iapply Hk
  isplitr [Hz]; swap; · iexact Hz
  unfold St StW
  rw [rest_zero, among_self, past_zero, bigSep_empty, bigSep_empty]
  isplitl [HO]; · iexists _; iexact HO
  isplitl [Htok Hpay]
  · rw [show (bigSep Finset.univ (fuel (F := F) c)) = iprop((bigSep Finset.univ fun k : Fin 18 => iprop(dutyTok ER (sCell c k) 0 0 ∗ dutyTok ER (rCell (mate k.val c) k) 0 0))
        ∗ bigSep Finset.univ fun k => anySlot (F := F) (mate k.val c) k) from by
      rw [← bigSep_sep']
      refine bigSep_congr fun k _ => ?_
      unfold fuel
      exact sep_regroup _ _ _]
    isplitl [Htok]; · iexact Htok
    iexact Hpay
  isplitl [Hseat]; · iexact Hseat
  isplitl; · iempintro
  iempintro

end Cert.Exchange

end
-- ==== Proof.Patterns.lean ====
/- The three patterns the kernel's body is made of: starting a layer's sum, one exchange of it, and taking in its last
   arrivals. -/
module

public import proofs.«01_k».proof.Proof.Steps

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Pieces of the buffers -/

theorem inbCol (q : ℕ) (hq : q < 2) : ∀ a, (![0, 512 * q] : Fin 2 → Nat) a + S64x512.size a ≤ S64x1024.size a :=
  fun
  | ⟨0, _⟩ => (by decide : 0 + 64 ≤ 64)
  | ⟨1, _⟩ => (by omega : 512 * q + 512 ≤ 1024)
theorem inbW (l h : ℕ) (hl : l < 3) (hh : h < 2) : ∀ a, (![l, 512 * h, 0] : Fin 3 → Nat) a + S1x512x2048.size a ≤ S3x1024x2048.size a :=
  fun
  | ⟨0, _⟩ => (by omega : l + 1 ≤ 3)
  | ⟨1, _⟩ => (by omega : 512 * h + 512 ≤ 1024)
  | ⟨2, _⟩ => (by decide : 0 + 2048 ≤ 2048)
theorem inbU (l h : ℕ) (hl : l < 3) (hh : h < 2) : ∀ a, (![l, 0, 512 * h] : Fin 3 → Nat) a + S1x2048x512.size a ≤ S3x2048x1024.size a :=
  fun
  | ⟨0, _⟩ => (by omega : l + 1 ≤ 3)
  | ⟨1, _⟩ => (by decide : 0 + 2048 ≤ 2048)
  | ⟨2, _⟩ => (by omega : 512 * h + 512 ≤ 1024)

/-- Column half `q` of a block of activations; the half `h` of layer `l` of either matrix. -/
abbrev cR (q : ℕ) (hq : q < 2) : Rect S64x1024 := Rect.unit (s := S64x1024) ![0, 512 * q] S64x512.size (inbCol q hq)
abbrev wR (l h : ℕ) (hl : l < 3) (hh : h < 2) : Rect S3x1024x2048 := Rect.unit (s := S3x1024x2048) ![l, 512 * h, 0] S1x512x2048.size (inbW l h hl hh)
abbrev uR (l h : ℕ) (hl : l < 3) (hh : h < 2) : Rect S3x2048x1024 := Rect.unit (s := S3x2048x1024) ![l, 0, 512 * h] S1x2048x512.size (inbU l h hl hh)

abbrev aS (q : ℕ) (hq : q < 2) : Memref sig .tc .vmem S64x512 .f32 := aM.slice (cR q hq) (fun _ => rfl)
abbrev wS (l h : ℕ) (hl : l < 3) (hh : h < 2) : Memref sig .tc .vmem S1x512x2048 .f32 := wM.slice (wR l h hl hh) (fun _ => rfl)
abbrev uS (l h : ℕ) (hl : l < 3) (hh : h < 2) : Memref sig .tc .vmem S1x2048x512 .f32 := uM.slice (uR l h hl hh) (fun _ => rfl)

variable (D : Data F) (κ : GSem nD τ sig → ℕ) (c : Dev nD) {α : Type} {Q : α → sProp (MT nD τ sig Unit (Elt F) ℕ UU ℕ)}

/-- Starting a layer's sum: the product's column half goes to the running sum, rounded to the outgoing slot, and out. -/
theorem wp_start (l k q d : ℕ) (hl : l < 3) (hk : k < 18) (hq : q < 2) (hkq : k % 2 = q) (hd : d ≤ k) (n : Dev nD) (hn : n = mate k c)
    (W : S1x2048x512.Idx → Elt F .f32)
    {p1 : (S1x2048x512.Idx → Elt F .f32) → FVec F S64x512 .f32} {p2 : (S1x2048x512.Idx → Elt F .f32) → FVec F S1x64x512 .bf16}
    (v1 : FVec F S64x512 .f32) (h1 : p1 W = v1) (h2 : p2 W = sent D k c)
    {hl1 : uM.view.LoadsAt (uR l q hl hq).toLoadRect} {hl2 : aM.view.LoadsAt (cR q hq).toLoadRect} {hl3 : sM.view.LoadsAt (sR q hq).toLoadRect}
    {hx1 : (aM.access (cR q hq)).Stores Finset.univ} {hm1 : (Finset.univ : Finset (cR q hq).shape.Idx) = Finset.univ ∨ ∀ a, (cR q hq).stride a = 1}
    {hx2 : (sM.access (sR q hq)).Stores Finset.univ} {hm2 : (Finset.univ : Finset (sR q hq).shape.Idx) = Finset.univ ∨ ∀ a, (sR q hq).stride a = 1}
    {hsc : (rQ k hk).view.ref.isScScratch = false} {hsrc : (sQ q hq).view.WordExact} {hdst : (rQ k hk).view.WordExact}
    {hsem : DmaTarget.Typed .vmem (.dma (rvS k hk)) (.remote (Dev.tc n : Thread nD τ) (rQ k hk) (.dma (sdS k hk)) hsc)}
    {K : PUnit → Prog (TpuEff nD τ sig (Elt F) Λ₀ .tc) α} :
    iprop(known D κ ∗ St (F := F) k d c ∗ owns (c : Thread nD τ) (uS l q hl hq) fullShare W
        ∗ (∃ X, owns (c : Thread nD τ) (aS q hq) fullShare X) ∗ (∃ X, owns (c : Thread nD τ) (sS q hq) fullShare X))
      ⊢ iprop((iprop(St (F := F) (k + 1) d c ∗ owns (c : Thread nD τ) (uS l q hl hq) fullShare W
            ∗ owns (c : Thread nD τ) (aS q hq) fullShare v1) -∗ Runs c (K ⟨⟩) Q)
        -∗ Runs c (.op (.load uM (uR l q hl hq).toLoadRect hl1) fun (vo : S1x2048x512.Idx → Elt F .f32) => .op (.load aM (cR q hq).toLoadRect hl2) fun _ =>
            .op (.store aM (cR q hq) (p1 vo) Finset.univ hx1 hm1) fun _ => .op (.load sM (sR q hq).toLoadRect hl3) fun _ =>
            .op (.store sM (sR q hq) (p2 vo) Finset.univ hx2 hm2) fun _ =>
            .op (.enqueueDma (sQ q hq) (.remote (Dev.tc n : Thread nD τ) (rQ k hk) (.dma (sdS k hk)) hsc) (.dma (rvS k hk)) hsrc hdst hsem) K) Q) := by
  iintro ⟨#HK, HSt, Hu, ⟨%X1, Ha⟩, ⟨%X2, Hs⟩⟩ Hk
  iapply (wp_loadS c (m := uM) (r := uR l q hl hq) (fun _ => rfl)) $$ Hu; iintro Hu
  iapply (wp_loadS c (m := aM) (r := cR q hq) (fun _ => rfl)) $$ Ha; iintro Ha
  iapply (wp_storeS c (m := aM) (r := cR q hq) (fun _ => rfl)) $$ Ha; iintro Ha
  iapply (wp_loadS c (m := sM) (r := sR q hq) (fun _ => rfl)) $$ Hs; iintro Hs
  iapply (wp_storeS c (m := sM) (r := sR q hq) (fun _ => rfl)) $$ Hs; iintro Hs
  rw [h1, h2]
  iapply (wp_copy D κ c k q d hk hq hkq hd n hn) $$ [HSt Hs]
  · isplitr; · iexact HK
    isplitl [HSt]; · iexact HSt
    iexact Hs
  iintro HSt
  iapply Hk
  isplitl [HSt]; · iexact HSt
  isplitl [Hu]; · iexact Hu
  iexact Ha

/-- One exchange: copy `k` has left and its counterpart has come in; the running sum takes it in, and the new sum goes out as
    copy `k + 2`. -/
theorem wp_exch (k q : ℕ) (hk : k < 18) (hk2 : k + 2 < 18) (hq : q < 2) (hkq : k % 2 = q) (n : Dev nD) (hn : n = mate (k + 2) c)
    {p1 : FVec F S64x512 .f32 → FVec F S1x64x512 .bf16 → FVec F S64x512 .f32}
    {p2 : FVec F S64x512 .f32 → FVec F S1x64x512 .bf16 → FVec F S1x64x512 .bf16}
    (v v1 : FVec F S64x512 .f32) (h1 : p1 v (sent D k (mate k c)) = v1) (h2 : p2 v (sent D k (mate k c)) = sent D (k + 2) c)
    {hw1 : (rQ k hk).view.WordExact} {hw2 : (sQ q hq).view.WordExact} {hw3 : (sQ q hq).view.WordExact} {hw4 : (rQ k hk).view.WordExact}
    {hl1 : aM.view.LoadsAt (cR q hq).toLoadRect} {hl2 : rM.view.LoadsAt (rR k hk).toLoadRect} {hl3 : aM.view.LoadsAt (cR q hq).toLoadRect}
    {hl4 : sM.view.LoadsAt (sR q hq).toLoadRect}
    {hx1 : (aM.access (cR q hq)).Stores Finset.univ} {hm1 : (Finset.univ : Finset (cR q hq).shape.Idx) = Finset.univ ∨ ∀ a, (cR q hq).stride a = 1}
    {hx2 : (sM.access (sR q hq)).Stores Finset.univ} {hm2 : (Finset.univ : Finset (sR q hq).shape.Idx) = Finset.univ ∨ ∀ a, (sR q hq).stride a = 1}
    {hsc : (rQ (k + 2) hk2).view.ref.isScScratch = false} {hsrc : (sQ q hq).view.WordExact} {hdst : (rQ (k + 2) hk2).view.WordExact}
    {hsem : DmaTarget.Typed .vmem (.dma (rvS (k + 2) hk2)) (.remote (Dev.tc n : Thread nD τ) (rQ (k + 2) hk2) (.dma (sdS (k + 2) hk2)) hsc)}
    {K : PUnit → Prog (TpuEff nD τ sig (Elt F) Λ₀ .tc) α} :
    iprop(known D κ ∗ St (F := F) (k + 2) k c ∗ owns (c : Thread nD τ) (aS q hq) fullShare v)
      ⊢ iprop((iprop(St (F := F) (k + 3) (k + 1) c ∗ owns (c : Thread nD τ) (aS q hq) fullShare v1) -∗ Runs c (K ⟨⟩) Q)
        -∗ Runs c (.op (.waitDma2 (sdS k hk) (rQ k hk) (sQ q hq) hw1 hw2) fun _ => .op (.waitDma2 (rvS k hk) (sQ q hq) (rQ k hk) hw3 hw4) fun _ =>
            .op (.load aM (cR q hq).toLoadRect hl1) fun (va : S64x512.Idx → Elt F .f32) => .op (.load rM (rR k hk).toLoadRect hl2) fun (vr : S1x64x512.Idx → Elt F .bf16) =>
            .op (.load aM (cR q hq).toLoadRect hl3) fun _ => .op (.store aM (cR q hq) (p1 va vr) Finset.univ hx1 hm1) fun _ =>
            .op (.load sM (sR q hq).toLoadRect hl4) fun _ => .op (.store sM (sR q hq) (p2 va vr) Finset.univ hx2 hm2) fun _ =>
            .op (.enqueueDma (sQ q hq) (.remote (Dev.tc n : Thread nD τ) (rQ (k + 2) hk2) (.dma (sdS (k + 2) hk2)) hsc) (.dma (rvS (k + 2) hk2)) hsrc hdst hsem) K) Q) := by
  iintro ⟨#HK, HSt, Ha⟩ Hk
  iapply (wp_pair D κ c k q (k + 2) hk hq hkq (by omega)) $$ [HSt]
  · isplitr; · iexact HK
    iexact HSt
  iintro ⟨HSt, HzS, HzR, Hs, Hr⟩
  iapply (wp_loadS c (m := aM) (r := cR q hq) (fun _ => rfl)) $$ Ha; iintro Ha
  iapply (wp_loadS c (m := rM) (r := rR k hk) (fun _ => rfl)) $$ Hr; iintro Hr
  iapply (wp_loadS c (m := aM) (r := cR q hq) (fun _ => rfl)) $$ Ha; iintro Ha
  iapply (wp_storeS c (m := aM) (r := cR q hq) (fun _ => rfl)) $$ Ha; iintro Ha
  iapply (wp_loadS c (m := sM) (r := sR q hq) (fun _ => rfl)) $$ Hs; iintro Hs
  iapply (wp_storeS c (m := sM) (r := sR q hq) (fun _ => rfl)) $$ Hs; iintro Hs
  rw [h1, h2]
  ihave HSt := (absorb c k (k + 2) hk (sent D k (mate k c))) $$ [HSt HzS HzR Hr]
  · isplitl [HSt]; · iexact HSt
    isplitl [HzS]; · iexact HzS
    isplitl [HzR]; · iexact HzR
    iexact Hr
  iapply (wp_copy D κ c (k + 2) q (k + 1) hk2 hq (by omega) (by omega) n hn) $$ [HSt Hs]
  · isplitr; · iexact HK
    isplitl [HSt]; · iexact HSt
    iexact Hs
  iintro HSt
  iapply Hk
  isplitl [HSt]; · iexact HSt
  iexact Ha

/-- The last exchange of a layer's column half: the sum and what came in are read. -/
theorem wp_take (k q n : ℕ) (hk : k < 18) (hq : q < 2) (hkq : k % 2 = q) (hn : k < n) (v : FVec F S64x512 .f32)
    {hw1 : (rQ k hk).view.WordExact} {hw2 : (sQ q hq).view.WordExact} {hw3 : (sQ q hq).view.WordExact} {hw4 : (rQ k hk).view.WordExact}
    {hl1 : aM.view.LoadsAt (cR q hq).toLoadRect} {hl2 : rM.view.LoadsAt (rR k hk).toLoadRect}
    {K : FVec F S64x512 .f32 → FVec F S1x64x512 .bf16 → Prog (TpuEff nD τ sig (Elt F) Λ₀ .tc) α} :
    iprop(known D κ ∗ St (F := F) n k c ∗ owns (c : Thread nD τ) (aS q hq) fullShare v)
      ⊢ iprop((iprop(St (F := F) n (k + 1) c ∗ (∃ X, owns (c : Thread nD τ) (aS q hq) fullShare X) ∗ (∃ X, owns (c : Thread nD τ) (sS q hq) fullShare X))
            -∗ Runs c (K v (sent D k (mate k c))) Q)
        -∗ Runs c (.op (.waitDma2 (sdS k hk) (rQ k hk) (sQ q hq) hw1 hw2) fun _ => .op (.waitDma2 (rvS k hk) (sQ q hq) (rQ k hk) hw3 hw4) fun _ =>
            .op (.load aM (cR q hq).toLoadRect hl1) fun (va : S64x512.Idx → Elt F .f32) => .op (.load rM (rR k hk).toLoadRect hl2) fun (vr : S1x64x512.Idx → Elt F .bf16) => K va vr) Q) := by
  iintro ⟨#HK, HSt, Ha⟩ Hk
  iapply (wp_pair D κ c k q n hk hq hkq hn) $$ [HSt]
  · isplitr; · iexact HK
    iexact HSt
  iintro ⟨HSt, HzS, HzR, Hs, Hr⟩
  iapply (wp_loadS c (m := aM) (r := cR q hq) (fun _ => rfl)) $$ Ha; iintro Ha
  iapply (wp_loadS c (m := rM) (r := rR k hk) (fun _ => rfl)) $$ Hr; iintro Hr
  ihave HSt := (absorb c k n hk (sent D k (mate k c))) $$ [HSt HzS HzR Hr]
  · isplitl [HSt]; · iexact HSt
    isplitl [HzS]; · iexact HzS
    isplitl [HzR]; · iexact HzR
    iexact Hr
  iapply Hk
  isplitl [HSt]; · iexact HSt
  isplitl [Ha]; · iexists v; iexact Ha
  iexists _; iexact Hs

end Cert.Exchange

end
-- ==== Proof.Buffers.lean ====
/- The scratch buffers cut into the pieces the kernel uses, and put together again. -/
module

public import proofs.«01_k».proof.Proof.Patterns
public import Idealize.ShloMosaic.Lib.Ring
public import Idealize.ShloMosaic.Lib.ValueLayout

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ UU ℕ

/-! ## General cuts -/

/-- A piece of a buffer with any contents. -/
abbrev loose {sp : CoreSpace} {s : Shape} {e : EltTy} (c : Dev nD) (m : Memref sig .tc sp s e) : sProp 𝕄 :=
  iprop(∃ X, owns (c : Thread nD τ) m fullShare X)

theorem loose_squeeze {sp : CoreSpace} {s s' : Shape} {e : EltTy} (c : Dev nD) (m : Memref sig .tc sp s e) (hq : s.Squeezes s') :
    loose (F := F) c m ⊢ loose c (m.squeeze s' hq) := by
  unfold loose
  iintro ⟨%X, H⟩
  iexists _
  iapply (owns_squeeze (c : Thread nD τ) m hq fullShare X); iexact H

/-- A piece filled through its squeezed form holds the same values in its own shape. -/
theorem owns_restore {sp : CoreSpace} {s s' : Shape} {e : EltTy} (c : Dev nD) (m : Memref sig .tc sp s e) (hq : s.Squeezes s')
    (Y : s'.Idx → Elt F e) (h : s'.ShapeCasts s) :
    (owns (c : Thread nD τ) (m.squeeze s' hq) fullShare Y : sProp 𝕄) ⊢ owns (c : Thread nD τ) m fullShare (shapeCast s Y h) := by
  refine BIBase.Entails.trans (Entails.of_eq ?_) (owns_unsqueeze (c : Thread nD τ) m hq fullShare (shapeCast s Y h))
  congr 1
  funext i
  show Y i = Y (Shape.reshapeEquiv h (Shape.reshapeEquiv hq.numel_eq i))
  rw [Shape.reshapeEquiv_reshapeEquiv, Shape.reshapeEquiv_self]

/-- A slice is two slices of it. -/
theorem owns_cut {sp : CoreSpace} {s : Shape} {e : EltTy} (c : Dev nD) (m : Memref sig .tc sp s e) (R Ra Rb : Rect s)
    (hR : ∀ a, R.stride a = 1) (hA : ∀ a, Ra.stride a = 1) (hB : ∀ a, Rb.stride a = 1)
    (hset : R.set = Ra.set ∪ Rb.set) (hdis : Disjoint Ra.set Rb.set)
    (ia : Ra.shape.Idx → R.shape.Idx) (ha : ∀ j, R.emb (ia j) = Ra.emb j)
    (ib : Rb.shape.Idx → R.shape.Idx) (hb : ∀ j, R.emb (ib j) = Rb.emb j) (X : R.shape.Idx → Elt F e) :
    (owns (c : Thread nD τ) (m.slice R hR) fullShare X : sProp 𝕄)
      ⊢ iprop(owns (c : Thread nD τ) (m.slice Ra hA) fullShare (fun j => X (ia j)) ∗ owns (c : Thread nD τ) (m.slice Rb hB) fullShare (fun j => X (ib j))) := by
  unfold owns
  iintro ⟨%f, %hf, H⟩
  have hs : (m.slice R hR).view.set = (m.slice Ra hA).view.set ∪ (m.slice Rb hB).view.set := by
    show (m.view.slice R).set = (m.view.slice Ra).set ∪ (m.view.slice Rb).set
    rw [View.set_slice, View.set_slice, View.set_slice, hset, Finset.map_union]
  have hd : Disjoint (m.slice Ra hA).view.set (m.slice Rb hB).view.set := by
    show Disjoint (m.view.slice Ra).set (m.view.slice Rb).set
    rw [View.set_slice, View.set_slice]; exact (Finset.disjoint_map _).mpr hdis
  rw [hs]
  ihave H := (pointsTo_union hd).1 $$ H
  icases H with ⟨Ha, Hb⟩
  isplitl [Ha]
  · iexists f
    isplitr
    · ipureintro; subst hf; funext j
      show m.view.read (Elt F) f (Ra.emb j) = m.view.read (Elt F) f (R.emb (ia j))
      rw [ha]
    iexact Ha
  · iexists f
    isplitr
    · ipureintro; subst hf; funext j
      show m.view.read (Elt F) f (Rb.emb j) = m.view.read (Elt F) f (R.emb (ib j))
      rw [hb]
    iexact Hb

section Family

variable {n : ℕ} (c : Dev nD) (b : Ref sig .tc) (r : Fin n → Rect b.ty.shape) (hr : ∀ t a, (r t).stride a = 1)
  (hd : ∀ t t', t ≠ t' → Disjoint (r t).set (r t').set) (hcov : (Finset.univ.biUnion fun t => (r t).set) = Finset.univ)

include hd hcov

/-- A whole buffer is its pieces. -/
theorem scatter : iprop(∃ f, (((c : Thread nD τ).loc b) ↦{fullShare} f : sProp 𝕄))
    ⊢ bigSep Finset.univ fun t => iprop(∃ X, owns (c : Thread nD τ) ((Memref.whole b).slice (r t) (hr t)) fullShare X) := by
  iintro ⟨%f, H⟩
  ihave H := (Entails.of_eq (owns_whole (c : Thread nD τ) b fullShare f).symm) $$ H
  iapply ((owns_rects (c : Thread nD τ) (Memref.whole b) fullShare r hr hd hcov f).trans (bigSep_mono fun t _ =>
    (show (owns (c : Thread nD τ) ((Memref.whole b).slice (r t) (hr t)) fullShare (fun j => f ((r t).emb j)) : sProp 𝕄)
      ⊢ iprop(∃ X, owns (c : Thread nD τ) ((Memref.whole b).slice (r t) (hr t)) fullShare X) by iintro H; iexists _; iexact H)))
  iexact H

/-- Pieces that cover a buffer are the whole buffer. -/
theorem gather : (bigSep Finset.univ fun t => iprop(∃ X, owns (c : Thread nD τ) ((Memref.whole b).slice (r t) (hr t)) fullShare X))
    ⊢ iprop(∃ f, (((c : Thread nD τ).loc b) ↦{fullShare} f : sProp 𝕄)) := by
  refine BIBase.Entails.trans (bigSep_mono fun t _ => (show _ ⊢ iprop(∃ f, (((c : Thread nD τ).loc b) ↦[((Memref.whole b).view.slice (r t)).set]{fullShare} f : sProp 𝕄)) from ?_))
    (Ring.pointsTo_blocks_join_exists (ℓ := (c : Thread nD τ).loc b) (fun t => ((Memref.whole b).view.slice (r t)).set) ?_ ?_ (fun _ => Classical.arbitrary _))
  · unfold owns
    iintro ⟨%X, %f, -, H⟩
    iexists f; iexact H
  · intro t t' h
    rw [View.set_slice, View.set_slice]; exact (Finset.disjoint_map _).mpr (hd t t' h)
  · ext i
    simp only [Finset.mem_biUnion, Finset.mem_univ, true_and, iff_true]
    obtain ⟨t, -, hx⟩ := Finset.mem_biUnion.mp (hcov.symm ▸ Finset.mem_univ (show b.ty.shape.Idx from i))
    exact ⟨t, by rw [View.set_slice]; exact Finset.mem_map.mpr ⟨_, hx, rfl⟩⟩

end Family

/-! ## This kernel's buffers -/

theorem unit_stride {s : Shape} {off size : Fin s.rank → ℕ} {inb} (a : Fin s.rank) : (Rect.unit (s := s) off size inb).stride a = 1 := rfl

/-- The two column halves cover a block of activations. -/
abbrev cF (q : Fin 2) : Rect S64x1024 := cR q.val q.isLt
theorem cF_disjoint : ∀ t t', t ≠ t' → Disjoint (cF t).set (cF t').set := fun t t' h =>
  Rect.unit_disjoint (1 : Fin 2) (by
    have h' : t.val ≠ t'.val := fun e => h (Fin.ext e)
    show 512 * t.val + 512 ≤ 512 * t'.val ∨ 512 * t'.val + 512 ≤ 512 * t.val; omega)
theorem cF_cover : (Finset.univ.biUnion fun t => (cF t).set) = Finset.univ := by
  ext i
  simp only [Finset.mem_biUnion, Finset.mem_univ, true_and, iff_true]
  have h0 : (i 0).val < 64 := (i 0).isLt
  have h1 : (i 1).val < 1024 := (i 1).isLt
  refine ⟨⟨(i 1).val / 512, by omega⟩, Rect.mem_set_unit.mpr fun
    | ⟨0, _⟩ => (⟨Nat.zero_le _, by omega⟩ : 0 ≤ (i 0).val ∧ (i 0).val < 0 + 64)
    | ⟨1, _⟩ => (⟨by omega, by omega⟩ : 512 * ((i 1).val / 512) ≤ (i 1).val ∧ (i 1).val < 512 * ((i 1).val / 512) + 512)⟩

/-- The outgoing slots, and the landing slots. -/
abbrev sF (q : Fin 2) : Rect S2x64x512 := sR q.val q.isLt
theorem sF_disjoint : ∀ t t', t ≠ t' → Disjoint (sF t).set (sF t').set := fun t t' h =>
  Rect.unit_disjoint (0 : Fin 3) (by
    have h' : t.val ≠ t'.val := fun e => h (Fin.ext e)
    show t.val + 1 ≤ t'.val ∨ t'.val + 1 ≤ t.val; omega)
theorem sF_cover : (Finset.univ.biUnion fun t => (sF t).set) = Finset.univ := by
  ext i
  simp only [Finset.mem_biUnion, Finset.mem_univ, true_and, iff_true]
  have h0 : (i 0).val < 2 := (i 0).isLt
  have h1 : (i 1).val < 64 := (i 1).isLt
  have h2 : (i 2).val < 512 := (i 2).isLt
  refine ⟨⟨(i 0).val, h0⟩, Rect.mem_set_unit.mpr fun
    | ⟨0, _⟩ => (⟨le_rfl, by omega⟩ : (i 0).val ≤ (i 0).val ∧ (i 0).val < (i 0).val + 1)
    | ⟨1, _⟩ => (⟨Nat.zero_le _, by omega⟩ : 0 ≤ (i 1).val ∧ (i 1).val < 0 + 64)
    | ⟨2, _⟩ => (⟨Nat.zero_le _, by omega⟩ : 0 ≤ (i 2).val ∧ (i 2).val < 0 + 512)⟩

abbrev rF (k : Fin 18) : Rect S18x64x512 := rR k.val k.isLt
theorem rF_disjoint : ∀ t t', t ≠ t' → Disjoint (rF t).set (rF t').set := fun t t' h =>
  Rect.unit_disjoint (0 : Fin 3) (by
    have h' : t.val ≠ t'.val := fun e => h (Fin.ext e)
    show t.val + 1 ≤ t'.val ∨ t'.val + 1 ≤ t.val; omega)
theorem rF_cover : (Finset.univ.biUnion fun t => (rF t).set) = Finset.univ := by
  ext i
  simp only [Finset.mem_biUnion, Finset.mem_univ, true_and, iff_true]
  have h0 : (i 0).val < 18 := (i 0).isLt
  have h1 : (i 1).val < 64 := (i 1).isLt
  have h2 : (i 2).val < 512 := (i 2).isLt
  refine ⟨⟨(i 0).val, h0⟩, Rect.mem_set_unit.mpr fun
    | ⟨0, _⟩ => (⟨le_rfl, by omega⟩ : (i 0).val ≤ (i 0).val ∧ (i 0).val < (i 0).val + 1)
    | ⟨1, _⟩ => (⟨Nat.zero_le _, by omega⟩ : 0 ≤ (i 1).val ∧ (i 1).val < 0 + 64)
    | ⟨2, _⟩ => (⟨Nat.zero_le _, by omega⟩ : 0 ≤ (i 2).val ∧ (i 2).val < 0 + 512)⟩

/-- A whole layer of either matrix. -/
theorem inbWL (l : ℕ) (hl : l < 3) : ∀ a, (![l, 0, 0] : Fin 3 → Nat) a + S1x1024x2048.size a ≤ S3x1024x2048.size a :=
  fun
  | ⟨0, _⟩ => (by omega : l + 1 ≤ 3)
  | ⟨1, _⟩ => (by decide : 0 + 1024 ≤ 1024)
  | ⟨2, _⟩ => (by decide : 0 + 2048 ≤ 2048)
theorem inbUL (l : ℕ) (hl : l < 3) : ∀ a, (![l, 0, 0] : Fin 3 → Nat) a + S1x2048x1024.size a ≤ S3x2048x1024.size a :=
  fun
  | ⟨0, _⟩ => (by omega : l + 1 ≤ 3)
  | ⟨1, _⟩ => (by decide : 0 + 2048 ≤ 2048)
  | ⟨2, _⟩ => (by decide : 0 + 1024 ≤ 1024)
abbrev wL (l : ℕ) (hl : l < 3) : Rect S3x1024x2048 := Rect.unit (s := S3x1024x2048) ![l, 0, 0] S1x1024x2048.size (inbWL l hl)
abbrev uL (l : ℕ) (hl : l < 3) : Rect S3x2048x1024 := Rect.unit (s := S3x2048x1024) ![l, 0, 0] S1x2048x1024.size (inbUL l hl)

abbrev wF (l : Fin 3) : Rect S3x1024x2048 := wL l.val l.isLt
theorem wF_disjoint : ∀ t t', t ≠ t' → Disjoint (wF t).set (wF t').set := fun t t' h =>
  Rect.unit_disjoint (0 : Fin 3) (by
    have h' : t.val ≠ t'.val := fun e => h (Fin.ext e)
    show t.val + 1 ≤ t'.val ∨ t'.val + 1 ≤ t.val; omega)
theorem wF_cover : (Finset.univ.biUnion fun t => (wF t).set) = Finset.univ := by
  ext i
  simp only [Finset.mem_biUnion, Finset.mem_univ, true_and, iff_true]
  have h0 : (i 0).val < 3 := (i 0).isLt
  have h1 : (i 1).val < 1024 := (i 1).isLt
  have h2 : (i 2).val < 2048 := (i 2).isLt
  refine ⟨⟨(i 0).val, h0⟩, Rect.mem_set_unit.mpr fun
    | ⟨0, _⟩ => (⟨le_rfl, by omega⟩ : (i 0).val ≤ (i 0).val ∧ (i 0).val < (i 0).val + 1)
    | ⟨1, _⟩ => (⟨Nat.zero_le _, by omega⟩ : 0 ≤ (i 1).val ∧ (i 1).val < 0 + 1024)
    | ⟨2, _⟩ => (⟨Nat.zero_le _, by omega⟩ : 0 ≤ (i 2).val ∧ (i 2).val < 0 + 2048)⟩
abbrev uF (l : Fin 3) : Rect S3x2048x1024 := uL l.val l.isLt
theorem uF_disjoint : ∀ t t', t ≠ t' → Disjoint (uF t).set (uF t').set := fun t t' h =>
  Rect.unit_disjoint (0 : Fin 3) (by
    have h' : t.val ≠ t'.val := fun e => h (Fin.ext e)
    show t.val + 1 ≤ t'.val ∨ t'.val + 1 ≤ t.val; omega)
theorem uF_cover : (Finset.univ.biUnion fun t => (uF t).set) = Finset.univ := by
  ext i
  simp only [Finset.mem_biUnion, Finset.mem_univ, true_and, iff_true]
  have h0 : (i 0).val < 3 := (i 0).isLt
  have h1 : (i 1).val < 2048 := (i 1).isLt
  have h2 : (i 2).val < 1024 := (i 2).isLt
  refine ⟨⟨(i 0).val, h0⟩, Rect.mem_set_unit.mpr fun
    | ⟨0, _⟩ => (⟨le_rfl, by omega⟩ : (i 0).val ≤ (i 0).val ∧ (i 0).val < (i 0).val + 1)
    | ⟨1, _⟩ => (⟨Nat.zero_le _, by omega⟩ : 0 ≤ (i 1).val ∧ (i 1).val < 0 + 2048)
    | ⟨2, _⟩ => (⟨Nat.zero_le _, by omega⟩ : 0 ≤ (i 2).val ∧ (i 2).val < 0 + 1024)⟩

/-- The halves of a layer make the layer. -/
abbrev wH (t : Fin 6) : Rect S3x1024x2048 := wR (t.val / 2) (t.val % 2) (by omega) (by omega)
theorem wH_disjoint : ∀ t t', t ≠ t' → Disjoint (wH t).set (wH t').set := fun t t' h => by
  have h' : t.val ≠ t'.val := fun e => h (Fin.ext e)
  by_cases hq : t.val / 2 = t'.val / 2
  · exact Rect.unit_disjoint (1 : Fin 3) (by
      show 512 * (t.val % 2) + 512 ≤ 512 * (t'.val % 2) ∨ 512 * (t'.val % 2) + 512 ≤ 512 * (t.val % 2); omega)
  · exact Rect.unit_disjoint (0 : Fin 3) (by show t.val / 2 + 1 ≤ t'.val / 2 ∨ t'.val / 2 + 1 ≤ t.val / 2; omega)
theorem wH_cover : (Finset.univ.biUnion fun t => (wH t).set) = Finset.univ := by
  ext i
  simp only [Finset.mem_biUnion, Finset.mem_univ, true_and, iff_true]
  have h0 : (i 0).val < 3 := (i 0).isLt
  have h1 : (i 1).val < 1024 := (i 1).isLt
  have h2 : (i 2).val < 2048 := (i 2).isLt
  refine ⟨⟨2 * (i 0).val + (i 1).val / 512, by omega⟩, Rect.mem_set_unit.mpr fun
    | ⟨0, _⟩ => (⟨by omega, by omega⟩ : (2 * (i 0).val + (i 1).val / 512) / 2 ≤ (i 0).val ∧ (i 0).val < (2 * (i 0).val + (i 1).val / 512) / 2 + 1)
    | ⟨1, _⟩ => (⟨by omega, by omega⟩ : 512 * ((2 * (i 0).val + (i 1).val / 512) % 2) ≤ (i 1).val ∧ (i 1).val < 512 * ((2 * (i 0).val + (i 1).val / 512) % 2) + 512)
    | ⟨2, _⟩ => (⟨Nat.zero_le _, by omega⟩ : 0 ≤ (i 2).val ∧ (i 2).val < 0 + 2048)⟩
abbrev uH (t : Fin 6) : Rect S3x2048x1024 := uR (t.val / 2) (t.val % 2) (by omega) (by omega)
theorem uH_disjoint : ∀ t t', t ≠ t' → Disjoint (uH t).set (uH t').set := fun t t' h => by
  have h' : t.val ≠ t'.val := fun e => h (Fin.ext e)
  by_cases hq : t.val / 2 = t'.val / 2
  · exact Rect.unit_disjoint (2 : Fin 3) (by
      show 512 * (t.val % 2) + 512 ≤ 512 * (t'.val % 2) ∨ 512 * (t'.val % 2) + 512 ≤ 512 * (t.val % 2); omega)
  · exact Rect.unit_disjoint (0 : Fin 3) (by show t.val / 2 + 1 ≤ t'.val / 2 ∨ t'.val / 2 + 1 ≤ t.val / 2; omega)
theorem uH_cover : (Finset.univ.biUnion fun t => (uH t).set) = Finset.univ := by
  ext i
  simp only [Finset.mem_biUnion, Finset.mem_univ, true_and, iff_true]
  have h0 : (i 0).val < 3 := (i 0).isLt
  have h1 : (i 1).val < 2048 := (i 1).isLt
  have h2 : (i 2).val < 1024 := (i 2).isLt
  refine ⟨⟨2 * (i 0).val + (i 2).val / 512, by omega⟩, Rect.mem_set_unit.mpr fun
    | ⟨0, _⟩ => (⟨by omega, by omega⟩ : (2 * (i 0).val + (i 2).val / 512) / 2 ≤ (i 0).val ∧ (i 0).val < (2 * (i 0).val + (i 2).val / 512) / 2 + 1)
    | ⟨1, _⟩ => (⟨Nat.zero_le _, by omega⟩ : 0 ≤ (i 1).val ∧ (i 1).val < 0 + 2048)
    | ⟨2, _⟩ => (⟨by omega, by omega⟩ : 512 * ((2 * (i 0).val + (i 2).val / 512) % 2) ≤ (i 2).val ∧ (i 2).val < 512 * ((2 * (i 0).val + (i 2).val / 512) % 2) + 512)⟩

/-- The elements of a layer are those of its two halves. -/
theorem wL_set (l : ℕ) (hl : l < 3) : (wL l hl).set = (wR l 0 hl (by decide)).set ∪ (wR l 1 hl (by decide)).set := by
  ext i
  rw [Finset.mem_union, Rect.mem_set_unit, Rect.mem_set_unit, Rect.mem_set_unit]
  have h1 : (i 1).val < 1024 := (i 1).isLt
  constructor
  · intro h
    by_cases hi : (i 1).val < 512
    · exact Or.inl fun
        | ⟨0, _⟩ => h 0
        | ⟨1, _⟩ => (⟨Nat.zero_le _, by omega⟩ : 512 * 0 ≤ (i 1).val ∧ (i 1).val < 512 * 0 + 512)
        | ⟨2, _⟩ => h 2
    · exact Or.inr fun
        | ⟨0, _⟩ => h 0
        | ⟨1, _⟩ => (⟨by omega, by omega⟩ : 512 * 1 ≤ (i 1).val ∧ (i 1).val < 512 * 1 + 512)
        | ⟨2, _⟩ => h 2
  · rintro (h | h)
    all_goals exact fun
      | ⟨0, _⟩ => h 0
      | ⟨1, _⟩ => (⟨Nat.zero_le _, by omega⟩ : 0 ≤ (i 1).val ∧ (i 1).val < 0 + 1024)
      | ⟨2, _⟩ => h 2
theorem uL_set (l : ℕ) (hl : l < 3) : (uL l hl).set = (uR l 0 hl (by decide)).set ∪ (uR l 1 hl (by decide)).set := by
  ext i
  rw [Finset.mem_union, Rect.mem_set_unit, Rect.mem_set_unit, Rect.mem_set_unit]
  have h2 : (i 2).val < 1024 := (i 2).isLt
  constructor
  · intro h
    by_cases hi : (i 2).val < 512
    · exact Or.inl fun
        | ⟨0, _⟩ => h 0
        | ⟨1, _⟩ => h 1
        | ⟨2, _⟩ => (⟨Nat.zero_le _, by omega⟩ : 512 * 0 ≤ (i 2).val ∧ (i 2).val < 512 * 0 + 512)
    · exact Or.inr fun
        | ⟨0, _⟩ => h 0
        | ⟨1, _⟩ => h 1
        | ⟨2, _⟩ => (⟨by omega, by omega⟩ : 512 * 1 ≤ (i 2).val ∧ (i 2).val < 512 * 1 + 512)
  · rintro (h | h)
    all_goals exact fun
      | ⟨0, _⟩ => h 0
      | ⟨1, _⟩ => h 1
      | ⟨2, _⟩ => (⟨Nat.zero_le _, by omega⟩ : 0 ≤ (i 2).val ∧ (i 2).val < 0 + 1024)

/-- The index of a half within its layer. -/
def inLayerW (h : ℕ) (hh : h < 2) (j : S1x512x2048.Idx) : S1x1024x2048.Idx :=
  ix3 (j 0) (⟨512 * h + (j 1).val, by have h1 : (j 1).val < 512 := (j 1).isLt; omega⟩ : Fin 1024) (j 2)
def inLayerU (h : ℕ) (hh : h < 2) (j : S1x2048x512.Idx) : S1x2048x1024.Idx :=
  ix3 (j 0) (j 1) (⟨512 * h + (j 2).val, by have h2 : (j 2).val < 512 := (j 2).isLt; omega⟩ : Fin 1024)

theorem inLayerW_emb (l h : ℕ) (hl : l < 3) (hh : h < 2) (j : S1x512x2048.Idx) :
    (wL l hl).emb (inLayerW h hh j) = (wR l h hl hh).emb j := by
  funext a
  match a with
  | ⟨0, _⟩ => exact Fin.ext (show l + 1 * (j 0).val = l + 1 * (j 0).val from rfl)
  | ⟨1, _⟩ => exact Fin.ext (show 0 + 1 * (512 * h + (j 1).val) = 512 * h + 1 * (j 1).val by omega)
  | ⟨2, _⟩ => exact Fin.ext (show 0 + 1 * (j 2).val = 0 + 1 * (j 2).val from rfl)
theorem inLayerU_emb (l h : ℕ) (hl : l < 3) (hh : h < 2) (j : S1x2048x512.Idx) :
    (uL l hl).emb (inLayerU h hh j) = (uR l h hl hh).emb j := by
  funext a
  match a with
  | ⟨0, _⟩ => exact Fin.ext (show l + 1 * (j 0).val = l + 1 * (j 0).val from rfl)
  | ⟨1, _⟩ => exact Fin.ext (show 0 + 1 * (j 1).val = 0 + 1 * (j 1).val from rfl)
  | ⟨2, _⟩ => exact Fin.ext (show 0 + 1 * (512 * h + (j 2).val) = 512 * h + 1 * (j 2).val by omega)

theorem halves_disjoint_w (l : ℕ) (hl : l < 3) : Disjoint (wR l 0 hl (by decide)).set (wR l 1 hl (by decide)).set :=
  Rect.unit_disjoint (1 : Fin 3) (Or.inl (by decide : 512 * 0 + 512 ≤ 512 * 1))
theorem halves_disjoint_u (l : ℕ) (hl : l < 3) : Disjoint (uR l 0 hl (by decide)).set (uR l 1 hl (by decide)).set :=
  Rect.unit_disjoint (2 : Fin 3) (Or.inl (by decide : 512 * 0 + 512 ≤ 512 * 1))

variable (D : Data F) (c : Dev nD)

/-- A layer of the first matrices is its upper and lower rows. -/
theorem cut_w (l : ℕ) (hl : l < 3) (X : S1x1024x2048.Idx → Elt F .f32) :
    (owns (c : Thread nD τ) (wM.slice (wL l hl) (fun _ => rfl)) fullShare X : sProp 𝕄)
      ⊢ iprop(owns (c : Thread nD τ) (wS l 0 hl (by decide)) fullShare (fun j => X (inLayerW 0 (by decide) j))
        ∗ owns (c : Thread nD τ) (wS l 1 hl (by decide)) fullShare (fun j => X (inLayerW 1 (by decide) j))) :=
  owns_cut c wM (wL l hl) (wR l 0 hl (by decide)) (wR l 1 hl (by decide)) (fun _ => rfl) (fun _ => rfl) (fun _ => rfl)
    (wL_set l hl) (halves_disjoint_w l hl) (inLayerW 0 (by decide)) (inLayerW_emb l 0 hl (by decide))
    (inLayerW 1 (by decide)) (inLayerW_emb l 1 hl (by decide)) X
/-- A layer of the second matrices is its left and right columns. -/
theorem cut_u (l : ℕ) (hl : l < 3) (X : S1x2048x1024.Idx → Elt F .f32) :
    (owns (c : Thread nD τ) (uM.slice (uL l hl) (fun _ => rfl)) fullShare X : sProp 𝕄)
      ⊢ iprop(owns (c : Thread nD τ) (uS l 0 hl (by decide)) fullShare (fun j => X (inLayerU 0 (by decide) j))
        ∗ owns (c : Thread nD τ) (uS l 1 hl (by decide)) fullShare (fun j => X (inLayerU 1 (by decide) j))) :=
  owns_cut c uM (uL l hl) (uR l 0 hl (by decide)) (uR l 1 hl (by decide)) (fun _ => rfl) (fun _ => rfl) (fun _ => rfl)
    (uL_set l hl) (halves_disjoint_u l hl) (inLayerU 0 (by decide)) (inLayerU_emb l 0 hl (by decide))
    (inLayerU 1 (by decide)) (inLayerU_emb l 1 hl (by decide)) X

/-- What a half of a layer reads of a matrix. -/
theorem wA_eq (l : ℕ) (h : S1024x2048.ShapeCasts S1x1024x2048) :
    (fun j => shapeCast S1x1024x2048 (D.wi l c) h (inLayerW 0 (by decide) j)) = wA D l c := by
  funext j
  rw [eq_ix3 j]; unfold wA
  refine (shapeCast_ab_1ab_apply (a := 1024) (b := 2048) (D.wi l c) h _ _ _).trans (Eq.symm ((shapeCast_ab_1ab_apply (a := 512) (b := 2048) _ _ _ _ _).trans ?_))
  refine congrArg (D.wi l c) (funext fun a => ?_)
  match a with
  | ⟨0, _⟩ => exact Fin.ext (show 0 + 1 * (j 1).val = 512 * 0 + (j 1).val by omega)
  | ⟨1, _⟩ => exact Fin.ext (show 0 + 1 * (j 2).val = (j 2).val by omega)
theorem wB_eq (l : ℕ) (h : S1024x2048.ShapeCasts S1x1024x2048) :
    (fun j => shapeCast S1x1024x2048 (D.wi l c) h (inLayerW 1 (by decide) j)) = wB D l c := by
  funext j
  rw [eq_ix3 j]; unfold wB
  refine (shapeCast_ab_1ab_apply (a := 1024) (b := 2048) (D.wi l c) h _ _ _).trans (Eq.symm ((shapeCast_ab_1ab_apply (a := 512) (b := 2048) _ _ _ _ _).trans ?_))
  refine congrArg (D.wi l c) (funext fun a => ?_)
  match a with
  | ⟨0, _⟩ => exact Fin.ext (show 512 + 1 * (j 1).val = 512 * 1 + (j 1).val by omega)
  | ⟨1, _⟩ => exact Fin.ext (show 0 + 1 * (j 2).val = (j 2).val by omega)
theorem oA_eq (l : ℕ) (h : S2048x1024.ShapeCasts S1x2048x1024) :
    (fun j => shapeCast S1x2048x1024 (D.wo l c) h (inLayerU 0 (by decide) j)) = oA D l c := by
  funext j
  rw [eq_ix3 j]; unfold oA
  refine (shapeCast_ab_1ab_apply (a := 2048) (b := 1024) (D.wo l c) h _ _ _).trans (Eq.symm ((shapeCast_ab_1ab_apply (a := 2048) (b := 512) _ _ _ _ _).trans ?_))
  refine congrArg (D.wo l c) (funext fun a => ?_)
  match a with
  | ⟨0, _⟩ => exact Fin.ext (show 0 + 1 * (j 1).val = (j 1).val by omega)
  | ⟨1, _⟩ => exact Fin.ext (show 0 + 1 * (j 2).val = 512 * 0 + (j 2).val by omega)
theorem oB_eq (l : ℕ) (h : S2048x1024.ShapeCasts S1x2048x1024) :
    (fun j => shapeCast S1x2048x1024 (D.wo l c) h (inLayerU 1 (by decide) j)) = oB D l c := by
  funext j
  rw [eq_ix3 j]; unfold oB
  refine (shapeCast_ab_1ab_apply (a := 2048) (b := 1024) (D.wo l c) h _ _ _).trans (Eq.symm ((shapeCast_ab_1ab_apply (a := 2048) (b := 512) _ _ _ _ _).trans ?_))
  refine congrArg (D.wo l c) (funext fun a => ?_)
  match a with
  | ⟨0, _⟩ => exact Fin.ext (show 0 + 1 * (j 1).val = (j 1).val by omega)
  | ⟨1, _⟩ => exact Fin.ext (show 512 + 1 * (j 2).val = 512 * 1 + (j 2).val by omega)

/-- A whole layer that has come in, cut into its halves. -/
theorem filled_w (l : ℕ) (hl : l < 3) (hq : S1x1024x2048.Squeezes S1024x2048) :
    (owns (c : Thread nD τ) ((wM.slice (wL l hl) (fun _ => rfl)).squeeze S1024x2048 hq) fullShare (D.wi l c) : sProp 𝕄)
      ⊢ iprop(owns (c : Thread nD τ) (wS l 0 hl (by decide)) fullShare (wA D l c) ∗ owns (c : Thread nD τ) (wS l 1 hl (by decide)) fullShare (wB D l c)) := by
  have h : _ ⊢ iprop(owns (c : Thread nD τ) (wS l 0 hl (by decide)) fullShare (fun j => shapeCast S1x1024x2048 (D.wi l c) (by decide) (inLayerW 0 (by decide) j))
      ∗ owns (c : Thread nD τ) (wS l 1 hl (by decide)) fullShare (fun j => shapeCast S1x1024x2048 (D.wi l c) (by decide) (inLayerW 1 (by decide) j))) :=
    (owns_restore c (wM.slice (wL l hl) (fun _ => rfl)) hq (D.wi l c) (show S1024x2048.ShapeCasts S1x1024x2048 by decide)).trans (cut_w c l hl _)
  rw [wA_eq, wB_eq] at h
  exact h
theorem filled_u (l : ℕ) (hl : l < 3) (hq : S1x2048x1024.Squeezes S2048x1024) :
    (owns (c : Thread nD τ) ((uM.slice (uL l hl) (fun _ => rfl)).squeeze S2048x1024 hq) fullShare (D.wo l c) : sProp 𝕄)
      ⊢ iprop(owns (c : Thread nD τ) (uS l 0 hl (by decide)) fullShare (oA D l c) ∗ owns (c : Thread nD τ) (uS l 1 hl (by decide)) fullShare (oB D l c)) := by
  have h : _ ⊢ iprop(owns (c : Thread nD τ) (uS l 0 hl (by decide)) fullShare (fun j => shapeCast S1x2048x1024 (D.wo l c) (by decide) (inLayerU 0 (by decide) j))
      ∗ owns (c : Thread nD τ) (uS l 1 hl (by decide)) fullShare (fun j => shapeCast S1x2048x1024 (D.wo l c) (by decide) (inLayerU 1 (by decide) j))) :=
    (owns_restore c (uM.slice (uL l hl) (fun _ => rfl)) hq (D.wo l c) (show S2048x1024.ShapeCasts S1x2048x1024 by decide)).trans (cut_u c l hl _)
  rw [oA_eq, oB_eq] at h
  exact h

theorem loose_cut_w (l : ℕ) (hl : l < 3) : loose (F := F) c (wM.slice (wL l hl) (fun _ => rfl))
    ⊢ iprop(loose c (wS l 0 hl (by decide)) ∗ loose c (wS l 1 hl (by decide))) := by
  unfold loose
  iintro ⟨%X, H⟩
  ihave H := (cut_w c l hl X) $$ H
  icases H with ⟨H0, H1⟩
  isplitl [H0]; · iexists _; iexact H0
  iexists _; iexact H1
theorem loose_cut_u (l : ℕ) (hl : l < 3) : loose (F := F) c (uM.slice (uL l hl) (fun _ => rfl))
    ⊢ iprop(loose c (uS l 0 hl (by decide)) ∗ loose c (uS l 1 hl (by decide))) := by
  unfold loose
  iintro ⟨%X, H⟩
  ihave H := (cut_u c l hl X) $$ H
  icases H with ⟨H0, H1⟩
  isplitl [H0]; · iexists _; iexact H0
  iexists _; iexact H1

end Cert.Exchange

end
-- ==== Proof.Body.lean ====
/- The kernel's body on one device: from what a device holds at the start, through all of its copies, exchanges and
   products, to the output block. -/
module

public import proofs.«01_k».proof.Proof.Patterns
public import proofs.«01_k».proof.Proof.Buffers

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## The arrays in the large memory -/

abbrev g1 : Memref sig .tc .hbm S1024x2048 .f32 := Memref.whole main_arg1
abbrev g2 : Memref sig .tc .hbm S2048x1024 .f32 := Memref.whole main_arg2
abbrev g3 : Memref sig .tc .hbm S1024x2048 .f32 := Memref.whole main_arg3
abbrev g4 : Memref sig .tc .hbm S2048x1024 .f32 := Memref.whole main_arg4
abbrev g5 : Memref sig .tc .hbm S1024x2048 .f32 := Memref.whole main_arg5
abbrev g6 : Memref sig .tc .hbm S2048x1024 .f32 := Memref.whole main_arg6

/-- The upper and lower rows of the first layer's first matrix, the left and right columns of its second. -/
abbrev g1A : Memref sig .tc .hbm S512x2048 .f32 := g1.slice (Rect.unit (s := S1024x2048) ![0, 0] S512x2048.size inb_S1024x2048_S512x2048_0_0) (fun _ => rfl)
abbrev g1B : Memref sig .tc .hbm S512x2048 .f32 := g1.slice (Rect.unit (s := S1024x2048) ![512, 0] S512x2048.size inb_S1024x2048_S512x2048_512_0) (fun _ => rfl)
abbrev g2A : Memref sig .tc .hbm S2048x512 .f32 := g2.slice (Rect.unit (s := S2048x1024) ![0, 0] S2048x512.size inb_S2048x1024_S2048x512_0_0) (fun _ => rfl)
abbrev g2B : Memref sig .tc .hbm S2048x512 .f32 := g2.slice (Rect.unit (s := S2048x1024) ![0, 512] S2048x512.size inb_S2048x1024_S2048x512_0_512) (fun _ => rfl)

/-- All of an array, or a piece of it, at the given contents. -/
abbrev holds {s : Shape} {e : EltTy} (c : Dev nD) (m : Memref sig .tc .hbm s e) (f : Buf (Elt F) (m.view.loc (c : Thread nD τ))) : sProp 𝕄 :=
  iprop(m.view.loc (c : Thread nD τ) ↦[m.view.set]{fullShare} f)

variable (D : Data F) (κ : GSem nD τ sig → ℕ) (c : Dev nD)

/-- The six weight arrays of the device. -/
def arrays : sProp 𝕄 :=
  iprop((holds c g1A (D.wi 0 c) ∗ holds c g1B (D.wi 0 c)) ∗ (holds c g2A (D.wo 0 c) ∗ holds c g2B (D.wo 0 c))
    ∗ holds c g3 (D.wi 1 c) ∗ holds c g4 (D.wo 1 c) ∗ holds c g5 (D.wi 2 c) ∗ holds c g6 (D.wo 2 c))
/-- The eight counters of the copies from them, at rest. -/
def idle : sProp 𝕄 :=
  iprop(semVal ((c : Thread nD τ), .dma (ldS 0 (by decide))) 0 ∗ semVal ((c : Thread nD τ), .dma (ldS 1 (by decide))) 0
    ∗ semVal ((c : Thread nD τ), .dma (ldS 2 (by decide))) 0 ∗ semVal ((c : Thread nD τ), .dma (ldS 3 (by decide))) 0
    ∗ semVal ((c : Thread nD τ), .dma (ldS 4 (by decide))) 0 ∗ semVal ((c : Thread nD τ), .dma (ldS 5 (by decide))) 0
    ∗ semVal ((c : Thread nD τ), .dma (ldS 6 (by decide))) 0 ∗ semVal ((c : Thread nD τ), .dma (ldS 7 (by decide))) 0)

abbrev hR : Rect S64x2048 := Rect.unit (s := S64x2048) ![0, 0] S64x2048.size inb_S64x2048_S64x2048_0_0
abbrev xS (q : ℕ) (hq : q < 2) : Memref sig .tc .vmem S64x512 .f32 := xM.slice (cR q hq) (fun _ => rfl)
abbrev oS (q : ℕ) (hq : q < 2) : Memref sig .tc .vmem S64x512 .f32 := oM.slice (cR q hq) (fun _ => rfl)
abbrev hS : Memref sig .tc .vmem S64x2048 .f32 := hM.slice hR (fun _ => rfl)

/-- The activations, by column halves. -/
def input : sProp 𝕄 := iprop(owns (c : Thread nD τ) (xS 0 (by decide)) fullShare (xA D c) ∗ owns (c : Thread nD τ) (xS 1 (by decide)) fullShare (xB D c))
/-- The scratch buffers other than the weights' and the landing slots', with any contents. -/
def slack : sProp 𝕄 :=
  iprop((loose c (aS 0 (by decide)) ∗ loose c (aS 1 (by decide))) ∗ (loose c (sS 0 (by decide)) ∗ loose c (sS 1 (by decide))) ∗ loose c hS)

/-- What the body starts from. -/
def before : sProp 𝕄 :=
  iprop(StB (F := F) c ∗ input D c ∗ (loose c (oS 0 (by decide)) ∗ loose c (oS 1 (by decide))) ∗ slack (F := F) c
    ∗ (loose c (wS 0 0 (by decide) (by decide)) ∗ loose c (wS 0 1 (by decide) (by decide))
      ∗ loose c (wM.slice (wL 1 (by decide)) (fun _ => rfl)) ∗ loose c (wM.slice (wL 2 (by decide)) (fun _ => rfl)))
    ∗ (loose c (uS 0 0 (by decide) (by decide)) ∗ loose c (uS 0 1 (by decide) (by decide))
      ∗ loose c (uM.slice (uL 1 (by decide)) (fun _ => rfl)) ∗ loose c (uM.slice (uL 2 (by decide)) (fun _ => rfl)))
    ∗ arrays D c ∗ idle (F := F) c)
/-- What it ends with. -/
def after : sProp 𝕄 :=
  iprop((St (F := F) 18 18 c ∗ semVal (bCell c) 0) ∗ input D c
    ∗ (owns (c : Thread nD τ) (oS 0 (by decide)) fullShare (outHalf D 0 c) ∗ owns (c : Thread nD τ) (oS 1 (by decide)) fullShare (outHalf D 1 c))
    ∗ slack (F := F) c
    ∗ ((loose c (wS 0 0 (by decide) (by decide)) ∗ loose c (wS 0 1 (by decide) (by decide)))
      ∗ (loose c (wS 1 0 (by decide) (by decide)) ∗ loose c (wS 1 1 (by decide) (by decide)))
      ∗ (loose c (wS 2 0 (by decide) (by decide)) ∗ loose c (wS 2 1 (by decide) (by decide))))
    ∗ ((loose c (uS 0 0 (by decide) (by decide)) ∗ loose c (uS 0 1 (by decide) (by decide)))
      ∗ (loose c (uS 1 0 (by decide) (by decide)) ∗ loose c (uS 1 1 (by decide) (by decide)))
      ∗ (loose c (uS 2 0 (by decide) (by decide)) ∗ loose c (uS 2 1 (by decide) (by decide))))
    ∗ arrays D c ∗ idle (F := F) c)

theorem lt3_0 : 0 < 3 := by decide
theorem lt3_1 : 1 < 3 := by decide
theorem lt3_2 : 2 < 3 := by decide

/-! ## What has come in -/

theorem came0 : (owns (c : Thread nD τ) ((wS 0 0 (by decide) (by decide)).squeeze S512x2048 squeezes_S1x512x2048_S512x2048) fullShare (g1A.view.read (Elt F) (D.wi 0 c)) : sProp 𝕄)
      ⊢ owns (c : Thread nD τ) (wS 0 0 (by decide) (by decide)) fullShare (wA D 0 c) :=
  owns_restore c (wS 0 0 (by decide) (by decide)) squeezes_S1x512x2048_S512x2048 _ (by decide)
theorem came1 : (owns (c : Thread nD τ) ((wS 0 1 (by decide) (by decide)).squeeze S512x2048 squeezes_S1x512x2048_S512x2048) fullShare (g1B.view.read (Elt F) (D.wi 0 c)) : sProp 𝕄)
      ⊢ owns (c : Thread nD τ) (wS 0 1 (by decide) (by decide)) fullShare (wB D 0 c) :=
  owns_restore c (wS 0 1 (by decide) (by decide)) squeezes_S1x512x2048_S512x2048 _ (by decide)
theorem came2 : (owns (c : Thread nD τ) ((uS 0 0 (by decide) (by decide)).squeeze S2048x512 squeezes_S1x2048x512_S2048x512) fullShare (g2A.view.read (Elt F) (D.wo 0 c)) : sProp 𝕄)
      ⊢ owns (c : Thread nD τ) (uS 0 0 (by decide) (by decide)) fullShare (oA D 0 c) :=
  owns_restore c (uS 0 0 (by decide) (by decide)) squeezes_S1x2048x512_S2048x512 _ (by decide)
theorem came3 : (owns (c : Thread nD τ) ((uS 0 1 (by decide) (by decide)).squeeze S2048x512 squeezes_S1x2048x512_S2048x512) fullShare (g2B.view.read (Elt F) (D.wo 0 c)) : sProp 𝕄)
      ⊢ owns (c : Thread nD τ) (uS 0 1 (by decide) (by decide)) fullShare (oB D 0 c) :=
  owns_restore c (uS 0 1 (by decide) (by decide)) squeezes_S1x2048x512_S2048x512 _ (by decide)
theorem came4 : (owns (c : Thread nD τ) ((wM.slice (wL 1 (by decide)) (fun _ => rfl)).squeeze S1024x2048 squeezes_S1x1024x2048_S1024x2048) fullShare (g3.view.read (Elt F) (D.wi 1 c)) : sProp 𝕄)
      ⊢ iprop(owns (c : Thread nD τ) (wS 1 0 (by decide) (by decide)) fullShare (wA D 1 c) ∗ owns (c : Thread nD τ) (wS 1 1 (by decide) (by decide)) fullShare (wB D 1 c)) :=
  filled_w D c 1 (by decide) squeezes_S1x1024x2048_S1024x2048
theorem came5 : (owns (c : Thread nD τ) ((uM.slice (uL 1 (by decide)) (fun _ => rfl)).squeeze S2048x1024 squeezes_S1x2048x1024_S2048x1024) fullShare (g4.view.read (Elt F) (D.wo 1 c)) : sProp 𝕄)
      ⊢ iprop(owns (c : Thread nD τ) (uS 1 0 (by decide) (by decide)) fullShare (oA D 1 c) ∗ owns (c : Thread nD τ) (uS 1 1 (by decide) (by decide)) fullShare (oB D 1 c)) :=
  filled_u D c 1 (by decide) squeezes_S1x2048x1024_S2048x1024
theorem came6 : (owns (c : Thread nD τ) ((wM.slice (wL 2 (by decide)) (fun _ => rfl)).squeeze S1024x2048 squeezes_S1x1024x2048_S1024x2048) fullShare (g5.view.read (Elt F) (D.wi 2 c)) : sProp 𝕄)
      ⊢ iprop(owns (c : Thread nD τ) (wS 2 0 (by decide) (by decide)) fullShare (wA D 2 c) ∗ owns (c : Thread nD τ) (wS 2 1 (by decide) (by decide)) fullShare (wB D 2 c)) :=
  filled_w D c 2 (by decide) squeezes_S1x1024x2048_S1024x2048
theorem came7 : (owns (c : Thread nD τ) ((uM.slice (uL 2 (by decide)) (fun _ => rfl)).squeeze S2048x1024 squeezes_S1x2048x1024_S2048x1024) fullShare (g6.view.read (Elt F) (D.wo 2 c)) : sProp 𝕄)
      ⊢ iprop(owns (c : Thread nD τ) (uS 2 0 (by decide) (by decide)) fullShare (oA D 2 c) ∗ owns (c : Thread nD τ) (uS 2 1 (by decide) (by decide)) fullShare (oB D 2 c)) :=
  filled_u D c 2 (by decide) squeezes_S1x2048x1024_S2048x1024

/-- Taking in what has come for copy `k` gives the running sum one step further; so does rounding it for the next copy. -/
theorem taken (k : ℕ) : k0_pay9 (acc D (k / 6) (k % 2) (k / 2 % 3) c) (sent D k (mate k c)) = acc D (k / 6) (k % 2) (k / 2 % 3 + 1) c := rfl
theorem stored (k : ℕ) : k0_pay10 (acc D (k / 6) (k % 2) (k / 2 % 3) c) (sent D k (mate k c)) = acc D (k / 6) (k % 2) (k / 2 % 3 + 1) c :=
  (shapeCast_self _ _).trans rfl
theorem passed (k : ℕ) : k0_pay11 (acc D (k / 6) (k % 2) (k / 2 % 3) c) (sent D k (mate k c)) = pack (acc D (k / 6) (k % 2) (k / 2 % 3 + 1) c) := rfl

/-- The product of a layer's hidden activations, as stored and as sent. -/
theorem put (l q : ℕ) : k0_pay4 (hid D l c) (oW D l q c) = acc D l q 0 c := (shapeCast_self _ _).trans rfl
theorem post (l q : ℕ) : k0_pay5 (hid D l c) (oW D l q c) = pack (acc D l q 0 c) := rfl

/-- The hidden activations of the second and third layers, as the kernel computes them. -/
theorem hid_one : k0_pay24 (k0_pay23 (acc D 0 1 2 c) (sent D 5 (mate 5 c)))
    (k0_pay22 (k0_pay21 (acc D 0 0 2 c) (sent D 4 (mate 4 c))) (wA D 1 c)) (wB D 1 c) = hid D 1 c := rfl
theorem hid_two : k0_pay44 (acc D 1 1 2 c) (sent D 11 (mate 11 c)) (k0_pay43 (acc D 1 0 2 c) (sent D 10 (mate 10 c)) (wA D 2 c)) (wB D 2 c) = hid D 2 c := rfl

/-- A program that has ended. -/
theorem runs_done {α : Type} {a : α} {Q : α → sProp 𝕄} : Q a ⊢ Runs c (.ret a) Q := by
  show _ ⊢ wp frame (wpE (defs₀ (F := F)) 𝒱₀ (c : Thread nD τ) none) Set.univ (Prog.ret a) Q
  rw [wp_ret]; iintro H; imodintro; iexact H

set_option maxHeartbeats 64000000 in
/-- From what a device starts with, the body runs to its end and leaves what it ends with. -/
theorem body_runs (Q : PUnit → sProp 𝕄) :
    iprop(known D κ ∗ before D c ∗ (after D c -∗ Q ⟨⟩))
      ⊢ Runs c (cc0_body xM (Memref.isWhole_whole _) g1 (Memref.isWhole_whole _) g2 (Memref.isWhole_whole _) g3 (Memref.isWhole_whole _)
          g4 (Memref.isWhole_whole _) g5 (Memref.isWhole_whole _) g6 (Memref.isWhole_whole _) oM (Memref.isWhole_whole _)
          aM (Memref.isWhole_whole _) hM (Memref.isWhole_whole _) sM (Memref.isWhole_whole _) rM (Memref.isWhole_whole _)
          wM (Memref.isWhole_whole _) uM (Memref.isWhole_whole _) cc0_scratch6 cc0_scratch7 cc0_scratch8) Q := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel
  simp only [semSignalWord, semWaitWord, Prog.lift, Prog.bind_op, Prog.bind_ret, Prog.pure_eq_ret, wp_deviceId]
  unfold before input slack arrays idle
  iintro ⟨#HK, ⟨HSt, ⟨Hx0, Hx1⟩, ⟨⟨%Y0, Ho0⟩, ⟨%Y1, Ho1⟩⟩, ⟨⟨Ha0, Ha1⟩, ⟨Hs0, Hs1⟩, ⟨%Yh, Hh⟩⟩, ⟨Hw00, Hw01, Hw1, Hw2⟩, ⟨Hu00, Hu01, Hu1, Hu2⟩,
    ⟨⟨Hg0, Hg1⟩, ⟨Hg2, Hg3⟩, Hg4, Hg5, Hg6, Hg7⟩, ⟨Hv0, Hv1, Hv2, Hv3, Hv4, Hv5, Hv6, Hv7⟩⟩, Hk⟩
  iapply (wp_fetch c (sm := ldS 0 (by decide)) (src := g1A) (dst := ((wS 0 0 (by decide) (by decide)).squeeze S512x2048 squeezes_S1x512x2048_S512x2048)) (fs := (D.wi 0 c)) (by decide)) $$ [Hg0 Hw00 Hv0]
  · isplitl [Hg0]; · iexact Hg0
    isplitl [Hw00]; · iapply (loose_squeeze c _ _); iexact Hw00
    iexact Hv0
  iintro HF0
  iapply (wp_fetch c (sm := ldS 1 (by decide)) (src := g1B) (dst := ((wS 0 1 (by decide) (by decide)).squeeze S512x2048 squeezes_S1x512x2048_S512x2048)) (fs := (D.wi 0 c)) (by decide)) $$ [Hg1 Hw01 Hv1]
  · isplitl [Hg1]; · iexact Hg1
    isplitl [Hw01]; · iapply (loose_squeeze c _ _); iexact Hw01
    iexact Hv1
  iintro HF1
  iapply (wp_fetch c (sm := ldS 2 (by decide)) (src := g2A) (dst := ((uS 0 0 (by decide) (by decide)).squeeze S2048x512 squeezes_S1x2048x512_S2048x512)) (fs := (D.wo 0 c)) (by decide)) $$ [Hg2 Hu00 Hv2]
  · isplitl [Hg2]; · iexact Hg2
    isplitl [Hu00]; · iapply (loose_squeeze c _ _); iexact Hu00
    iexact Hv2
  iintro HF2
  iapply (wp_fetch c (sm := ldS 3 (by decide)) (src := g2B) (dst := ((uS 0 1 (by decide) (by decide)).squeeze S2048x512 squeezes_S1x2048x512_S2048x512)) (fs := (D.wo 0 c)) (by decide)) $$ [Hg3 Hu01 Hv3]
  · isplitl [Hg3]; · iexact Hg3
    isplitl [Hu01]; · iapply (loose_squeeze c _ _); iexact Hu01
    iexact Hv3
  iintro HF3
  iapply (wp_fetch c (sm := ldS 4 (by decide)) (src := g3) (dst := ((wM.slice (wL 1 (by decide)) (fun _ => rfl)).squeeze S1024x2048 squeezes_S1x1024x2048_S1024x2048)) (fs := (D.wi 1 c)) (by decide)) $$ [Hg4 Hw1 Hv4]
  · isplitl [Hg4]; · iexact Hg4
    isplitl [Hw1]; · iapply (loose_squeeze c _ _); iexact Hw1
    iexact Hv4
  iintro HF4
  iapply (wp_fetch c (sm := ldS 5 (by decide)) (src := g4) (dst := ((uM.slice (uL 1 (by decide)) (fun _ => rfl)).squeeze S2048x1024 squeezes_S1x2048x1024_S2048x1024)) (fs := (D.wo 1 c)) (by decide)) $$ [Hg5 Hu1 Hv5]
  · isplitl [Hg5]; · iexact Hg5
    isplitl [Hu1]; · iapply (loose_squeeze c _ _); iexact Hu1
    iexact Hv5
  iintro HF5
  iapply (wp_fetch c (sm := ldS 6 (by decide)) (src := g5) (dst := ((wM.slice (wL 2 (by decide)) (fun _ => rfl)).squeeze S1024x2048 squeezes_S1x1024x2048_S1024x2048)) (fs := (D.wi 2 c)) (by decide)) $$ [Hg6 Hw2 Hv6]
  · isplitl [Hg6]; · iexact Hg6
    isplitl [Hw2]; · iapply (loose_squeeze c _ _); iexact Hw2
    iexact Hv6
  iintro HF6
  iapply (wp_fetch c (sm := ldS 7 (by decide)) (src := g6) (dst := ((uM.slice (uL 2 (by decide)) (fun _ => rfl)).squeeze S2048x1024 squeezes_S1x2048x1024_S2048x1024)) (fs := (D.wo 2 c)) (by decide)) $$ [Hg7 Hu2 Hv7]
  · isplitl [Hg7]; · iexact Hg7
    isplitl [Hu2]; · iapply (loose_squeeze c _ _); iexact Hu2
    iexact Hv7
  iintro HF7
  iapply (wp_knocks D κ c _ _ _ (dev_bar0 c) (dev_bar1 c) (dev_bar2 c)) $$ [HSt]
  · isplitr; · iexact HK
    iexact HSt
  iintro ⟨HSt, HvB⟩
  iapply (wp_loaded D κ c 0 0 0 (by decide) (src := g1A) (dst := ((wS 0 0 (by decide) (by decide)).squeeze S512x2048 squeezes_S1x512x2048_S512x2048)) (fs := (D.wi 0 c))) $$ [HSt HF0]
  · isplitr; · iexact HK
    isplitl [HSt]; · iexact HSt
    iexact HF0
  iintro ⟨HSt, Hw00, Hg0, Hv0⟩
  ihave Hw00 := (came0 D c) $$ Hw00
  iapply (wp_loadS c (m := xM) (r := cR 0 Nat.zero_lt_two) (fun _ => rfl)) $$ Hx0; iintro Hx0
  iapply (wp_loadS c (m := wM) (r := wR 0 0 lt3_0 Nat.zero_lt_two) (fun _ => rfl)) $$ Hw00; iintro Hw00
  iapply (wp_loaded D κ c 0 0 1 (by decide) (src := g1B) (dst := ((wS 0 1 (by decide) (by decide)).squeeze S512x2048 squeezes_S1x512x2048_S512x2048)) (fs := (D.wi 0 c))) $$ [HSt HF1]
  · isplitr; · iexact HK
    isplitl [HSt]; · iexact HSt
    iexact HF1
  iintro ⟨HSt, Hw01, Hg1, Hv1⟩
  ihave Hw01 := (came1 D c) $$ Hw01
  iapply (wp_loadS c (m := xM) (r := cR 1 Nat.one_lt_two) (fun _ => rfl)) $$ Hx1; iintro Hx1
  iapply (wp_loadS c (m := wM) (r := wR 0 1 lt3_0 Nat.one_lt_two) (fun _ => rfl)) $$ Hw01; iintro Hw01
  iapply (wp_loaded D κ c 0 0 2 (by decide) (src := g2A) (dst := ((uS 0 0 (by decide) (by decide)).squeeze S2048x512 squeezes_S1x2048x512_S2048x512)) (fs := (D.wo 0 c))) $$ [HSt HF2]
  · isplitr; · iexact HK
    isplitl [HSt]; · iexact HSt
    iexact HF2
  iintro ⟨HSt, Hu00, Hg2, Hv2⟩
  ihave Hu00 := (came2 D c) $$ Hu00
  iapply (wp_start D κ c 0 0 0 0 (by decide) (by decide) (by decide) (by decide) (by decide) _ (dev_0 c) (oA D 0 c)
      (p1 := k0_pay4 (hid D 0 c)) (p2 := k0_pay5 (hid D 0 c)) (acc D 0 0 0 c) (put D c 0 0) (post D c 0 0)) $$ [HSt Hu00 Ha0 Hs0]
  · isplitr; · iexact HK
    isplitl [HSt]; · iexact HSt
    isplitl [Hu00]; · iexact Hu00
    isplitl [Ha0]; · iexact Ha0
    iexact Hs0
  iintro ⟨HSt, Hu00, Ha0⟩
  iapply (wp_loaded D κ c 1 0 3 (by decide) (src := g2B) (dst := ((uS 0 1 (by decide) (by decide)).squeeze S2048x512 squeezes_S1x2048x512_S2048x512)) (fs := (D.wo 0 c))) $$ [HSt HF3]
  · isplitr; · iexact HK
    isplitl [HSt]; · iexact HSt
    iexact HF3
  iintro ⟨HSt, Hu01, Hg3, Hv3⟩
  ihave Hu01 := (came3 D c) $$ Hu01
  iapply (wp_start D κ c 0 1 1 0 (by decide) (by decide) (by decide) (by decide) (by decide) _ (dev_1 c) (oB D 0 c)
      (p1 := k0_pay7 (hid D 0 c)) (p2 := k0_pay8 (hid D 0 c)) (acc D 0 1 0 c) (put D c 0 1) (post D c 0 1)) $$ [HSt Hu01 Ha1 Hs1]
  · isplitr; · iexact HK
    isplitl [HSt]; · iexact HSt
    isplitl [Hu01]; · iexact Hu01
    isplitl [Ha1]; · iexact Ha1
    iexact Hs1
  iintro ⟨HSt, Hu01, Ha1⟩
  iapply (wp_exch D κ c 0 0 (by decide) (by decide) (by decide) (by decide) _ (dev_2 c) (p1 := k0_pay10) (p2 := k0_pay11)
      (acc D 0 0 0 c) (acc D 0 0 1 c) (stored D c 0) (passed D c 0)) $$ [HSt Ha0]
  · isplitr; · iexact HK
    isplitl [HSt]; · iexact HSt
    iexact Ha0
  iintro ⟨HSt, Ha0⟩
  iapply (wp_exch D κ c 1 1 (by decide) (by decide) (by decide) (by decide) _ (dev_3 c) (p1 := k0_pay13) (p2 := k0_pay14)
      (acc D 0 1 0 c) (acc D 0 1 1 c) (stored D c 1) (passed D c 1)) $$ [HSt Ha1]
  · isplitr; · iexact HK
    isplitl [HSt]; · iexact HSt
    iexact Ha1
  iintro ⟨HSt, Ha1⟩
  iapply (wp_exch D κ c 2 0 (by decide) (by decide) (by decide) (by decide) _ (dev_4 c) (p1 := k0_pay16) (p2 := k0_pay17)
      (acc D 0 0 1 c) (acc D 0 0 2 c) (stored D c 2) (passed D c 2)) $$ [HSt Ha0]
  · isplitr; · iexact HK
    isplitl [HSt]; · iexact HSt
    iexact Ha0
  iintro ⟨HSt, Ha0⟩
  iapply (wp_exch D κ c 3 1 (by decide) (by decide) (by decide) (by decide) _ (dev_5 c) (p1 := k0_pay19) (p2 := k0_pay20)
      (acc D 0 1 1 c) (acc D 0 1 2 c) (stored D c 3) (passed D c 3)) $$ [HSt Ha1]
  · isplitr; · iexact HK
    isplitl [HSt]; · iexact HSt
    iexact Ha1
  iintro ⟨HSt, Ha1⟩
  iapply (wp_take D κ c 4 0 6 (by decide) (by decide) (by decide) (by decide) (acc D 0 0 2 c)) $$ [HSt Ha0]
  · isplitr; · iexact HK
    isplitl [HSt]; · iexact HSt
    iexact Ha0
  iintro ⟨HSt, Ha0, Hs0⟩
  iapply (wp_loaded D κ c 6 5 4 (by decide) (src := g3) (dst := ((wM.slice (wL 1 (by decide)) (fun _ => rfl)).squeeze S1024x2048 squeezes_S1x1024x2048_S1024x2048)) (fs := (D.wi 1 c))) $$ [HSt HF4]
  · isplitr; · iexact HK
    isplitl [HSt]; · iexact HSt
    iexact HF4
  iintro ⟨HSt, Hm, Hg4, Hv4⟩
  ihave Hm := (came4 D c) $$ Hm
  icases Hm with ⟨Hw10, Hw11⟩
  iapply (wp_loadS c (m := wM) (r := wR 1 0 lt3_1 Nat.zero_lt_two) (fun _ => rfl)) $$ Hw10; iintro Hw10
  iapply (wp_loadS c (m := hM) (r := hR) (fun _ => rfl)) $$ Hh; iintro Hh
  iapply (wp_storeS c (m := hM) (r := hR) (fun _ => rfl)) $$ Hh; iintro Hh
  iapply (wp_take D κ c 5 1 6 (by decide) (by decide) (by decide) (by decide) (acc D 0 1 2 c)) $$ [HSt Ha1]
  · isplitr; · iexact HK
    isplitl [HSt]; · iexact HSt
    iexact Ha1
  iintro ⟨HSt, Ha1, Hs1⟩
  iapply (wp_loadS c (m := hM) (r := hR) (fun _ => rfl)) $$ Hh; iintro Hh
  iapply (wp_loadS c (m := wM) (r := wR 1 1 lt3_1 Nat.one_lt_two) (fun _ => rfl)) $$ Hw11; iintro Hw11
  iapply (wp_loaded D κ c 6 6 5 (by decide) (src := g4) (dst := ((uM.slice (uL 1 (by decide)) (fun _ => rfl)).squeeze S2048x1024 squeezes_S1x2048x1024_S2048x1024)) (fs := (D.wo 1 c))) $$ [HSt HF5]
  · isplitr; · iexact HK
    isplitl [HSt]; · iexact HSt
    iexact HF5
  iintro ⟨HSt, Hm, Hg5, Hv5⟩
  ihave Hm := (came5 D c) $$ Hm
  icases Hm with ⟨Hu10, Hu11⟩
  iapply (wp_start D κ c 1 6 0 6 (by decide) (by decide) (by decide) (by decide) (by decide) _ (dev_6 c) (oA D 1 c)
      (p1 := k0_pay26 (k0_pay23 (acc D 0 1 2 c) (sent D 5 (mate 5 c))) (k0_pay22 (k0_pay21 (acc D 0 0 2 c) (sent D 4 (mate 4 c))) (wA D 1 c)) (wB D 1 c)) (p2 := k0_pay27 (k0_pay23 (acc D 0 1 2 c) (sent D 5 (mate 5 c))) (k0_pay22 (k0_pay21 (acc D 0 0 2 c) (sent D 4 (mate 4 c))) (wA D 1 c)) (wB D 1 c)) (acc D 1 0 0 c) (put D c 1 0) (post D c 1 0)) $$ [HSt Hu10 Ha0 Hs0]
  · isplitr; · iexact HK
    isplitl [HSt]; · iexact HSt
    isplitl [Hu10]; · iexact Hu10
    isplitl [Ha0]; · iexact Ha0
    iexact Hs0
  iintro ⟨HSt, Hu10, Ha0⟩
  iapply (wp_start D κ c 1 7 1 6 (by decide) (by decide) (by decide) (by decide) (by decide) _ (dev_7 c) (oB D 1 c)
      (p1 := k0_pay29 (k0_pay24 (k0_pay23 (acc D 0 1 2 c) (sent D 5 (mate 5 c))) (k0_pay22 (k0_pay21 (acc D 0 0 2 c) (sent D 4 (mate 4 c))) (wA D 1 c)) (wB D 1 c))) (p2 := k0_pay30 (k0_pay24 (k0_pay23 (acc D 0 1 2 c) (sent D 5 (mate 5 c))) (k0_pay22 (k0_pay21 (acc D 0 0 2 c) (sent D 4 (mate 4 c))) (wA D 1 c)) (wB D 1 c))) (acc D 1 1 0 c) (put D c 1 1) (post D c 1 1)) $$ [HSt Hu11 Ha1 Hs1]
  · isplitr; · iexact HK
    isplitl [HSt]; · iexact HSt
    isplitl [Hu11]; · iexact Hu11
    isplitl [Ha1]; · iexact Ha1
    iexact Hs1
  iintro ⟨HSt, Hu11, Ha1⟩
  iapply (wp_exch D κ c 6 0 (by decide) (by decide) (by decide) (by decide) _ (dev_8 c) (p1 := k0_pay32) (p2 := k0_pay33)
      (acc D 1 0 0 c) (acc D 1 0 1 c) (stored D c 6) (passed D c 6)) $$ [HSt Ha0]
  · isplitr; · iexact HK
    isplitl [HSt]; · iexact HSt
    iexact Ha0
  iintro ⟨HSt, Ha0⟩
  iapply (wp_exch D κ c 7 1 (by decide) (by decide) (by decide) (by decide) _ (dev_9 c) (p1 := fun a b => k0_pay35 (k0_pay34 a b)) (p2 := fun a b => k0_pay36 (k0_pay34 a b))
      (acc D 1 1 0 c) (acc D 1 1 1 c) (stored D c 7) (passed D c 7)) $$ [HSt Ha1]
  · isplitr; · iexact HK
    isplitl [HSt]; · iexact HSt
    iexact Ha1
  iintro ⟨HSt, Ha1⟩
  iapply (wp_exch D κ c 8 0 (by decide) (by decide) (by decide) (by decide) _ (dev_10 c) (p1 := k0_pay38) (p2 := k0_pay39)
      (acc D 1 0 1 c) (acc D 1 0 2 c) (stored D c 8) (passed D c 8)) $$ [HSt Ha0]
  · isplitr; · iexact HK
    isplitl [HSt]; · iexact HSt
    iexact Ha0
  iintro ⟨HSt, Ha0⟩
  iapply (wp_exch D κ c 9 1 (by decide) (by decide) (by decide) (by decide) _ (dev_11 c) (p1 := k0_pay41) (p2 := k0_pay42)
      (acc D 1 1 1 c) (acc D 1 1 2 c) (stored D c 9) (passed D c 9)) $$ [HSt Ha1]
  · isplitr; · iexact HK
    isplitl [HSt]; · iexact HSt
    iexact Ha1
  iintro ⟨HSt, Ha1⟩
  iapply (wp_take D κ c 10 0 12 (by decide) (by decide) (by decide) (by decide) (acc D 1 0 2 c)) $$ [HSt Ha0]
  · isplitr; · iexact HK
    isplitl [HSt]; · iexact HSt
    iexact Ha0
  iintro ⟨HSt, Ha0, Hs0⟩
  iapply (wp_loaded D κ c 12 11 6 (by decide) (src := g5) (dst := ((wM.slice (wL 2 (by decide)) (fun _ => rfl)).squeeze S1024x2048 squeezes_S1x1024x2048_S1024x2048)) (fs := (D.wi 2 c))) $$ [HSt HF6]
  · isplitr; · iexact HK
    isplitl [HSt]; · iexact HSt
    iexact HF6
  iintro ⟨HSt, Hm, Hg6, Hv6⟩
  ihave Hm := (came6 D c) $$ Hm
  icases Hm with ⟨Hw20, Hw21⟩
  iapply (wp_loadS c (m := wM) (r := wR 2 0 lt3_2 Nat.zero_lt_two) (fun _ => rfl)) $$ Hw20; iintro Hw20
  iapply (wp_loadS c (m := hM) (r := hR) (fun _ => rfl)) $$ Hh; iintro Hh
  iapply (wp_storeS c (m := hM) (r := hR) (fun _ => rfl)) $$ Hh; iintro Hh
  iapply (wp_take D κ c 11 1 12 (by decide) (by decide) (by decide) (by decide) (acc D 1 1 2 c)) $$ [HSt Ha1]
  · isplitr; · iexact HK
    isplitl [HSt]; · iexact HSt
    iexact Ha1
  iintro ⟨HSt, Ha1, Hs1⟩
  iapply (wp_loadS c (m := hM) (r := hR) (fun _ => rfl)) $$ Hh; iintro Hh
  iapply (wp_loadS c (m := wM) (r := wR 2 1 lt3_2 Nat.one_lt_two) (fun _ => rfl)) $$ Hw21; iintro Hw21
  iapply (wp_loaded D κ c 12 12 7 (by decide) (src := g6) (dst := ((uM.slice (uL 2 (by decide)) (fun _ => rfl)).squeeze S2048x1024 squeezes_S1x2048x1024_S2048x1024)) (fs := (D.wo 2 c))) $$ [HSt HF7]
  · isplitr; · iexact HK
    isplitl [HSt]; · iexact HSt
    iexact HF7
  iintro ⟨HSt, Hm, Hg7, Hv7⟩
  ihave Hm := (came7 D c) $$ Hm
  icases Hm with ⟨Hu20, Hu21⟩
  iapply (wp_start D κ c 2 12 0 12 (by decide) (by decide) (by decide) (by decide) (by decide) _ (dev_12 c) (oA D 2 c)
      (p1 := k0_pay46 (acc D 1 1 2 c) (sent D 11 (mate 11 c)) (k0_pay43 (acc D 1 0 2 c) (sent D 10 (mate 10 c)) (wA D 2 c)) (wB D 2 c)) (p2 := k0_pay47 (acc D 1 1 2 c) (sent D 11 (mate 11 c)) (k0_pay43 (acc D 1 0 2 c) (sent D 10 (mate 10 c)) (wA D 2 c)) (wB D 2 c)) (acc D 2 0 0 c) (put D c 2 0) (post D c 2 0)) $$ [HSt Hu20 Ha0 Hs0]
  · isplitr; · iexact HK
    isplitl [HSt]; · iexact HSt
    isplitl [Hu20]; · iexact Hu20
    isplitl [Ha0]; · iexact Ha0
    iexact Hs0
  iintro ⟨HSt, Hu20, Ha0⟩
  iapply (wp_start D κ c 2 13 1 12 (by decide) (by decide) (by decide) (by decide) (by decide) _ (dev_13 c) (oB D 2 c)
      (p1 := k0_pay49 (k0_pay44 (acc D 1 1 2 c) (sent D 11 (mate 11 c)) (k0_pay43 (acc D 1 0 2 c) (sent D 10 (mate 10 c)) (wA D 2 c)) (wB D 2 c))) (p2 := k0_pay50 (k0_pay44 (acc D 1 1 2 c) (sent D 11 (mate 11 c)) (k0_pay43 (acc D 1 0 2 c) (sent D 10 (mate 10 c)) (wA D 2 c)) (wB D 2 c))) (acc D 2 1 0 c) (put D c 2 1) (post D c 2 1)) $$ [HSt Hu21 Ha1 Hs1]
  · isplitr; · iexact HK
    isplitl [HSt]; · iexact HSt
    isplitl [Hu21]; · iexact Hu21
    isplitl [Ha1]; · iexact Ha1
    iexact Hs1
  iintro ⟨HSt, Hu21, Ha1⟩
  iapply (wp_exch D κ c 12 0 (by decide) (by decide) (by decide) (by decide) _ (dev_14 c) (p1 := k0_pay52) (p2 := k0_pay53)
      (acc D 2 0 0 c) (acc D 2 0 1 c) (stored D c 12) (passed D c 12)) $$ [HSt Ha0]
  · isplitr; · iexact HK
    isplitl [HSt]; · iexact HSt
    iexact Ha0
  iintro ⟨HSt, Ha0⟩
  iapply (wp_exch D κ c 13 1 (by decide) (by decide) (by decide) (by decide) _ (dev_15 c) (p1 := k0_pay55) (p2 := k0_pay56)
      (acc D 2 1 0 c) (acc D 2 1 1 c) (stored D c 13) (passed D c 13)) $$ [HSt Ha1]
  · isplitr; · iexact HK
    isplitl [HSt]; · iexact HSt
    iexact Ha1
  iintro ⟨HSt, Ha1⟩
  iapply (wp_exch D κ c 14 0 (by decide) (by decide) (by decide) (by decide) _ (dev_16 c) (p1 := k0_pay58) (p2 := k0_pay59)
      (acc D 2 0 1 c) (acc D 2 0 2 c) (stored D c 14) (passed D c 14)) $$ [HSt Ha0]
  · isplitr; · iexact HK
    isplitl [HSt]; · iexact HSt
    iexact Ha0
  iintro ⟨HSt, Ha0⟩
  iapply (wp_exch D κ c 15 1 (by decide) (by decide) (by decide) (by decide) _ (dev_17 c) (p1 := k0_pay61) (p2 := fun a b => k0_pay63 (k0_pay62 a b))
      (acc D 2 1 1 c) (acc D 2 1 2 c) (stored D c 15) (passed D c 15)) $$ [HSt Ha1]
  · isplitr; · iexact HK
    isplitl [HSt]; · iexact HSt
    iexact Ha1
  iintro ⟨HSt, Ha1⟩
  iapply (wp_take D κ c 16 0 18 (by decide) (by decide) (by decide) (by decide) (acc D 2 0 2 c)) $$ [HSt Ha0]
  · isplitr; · iexact HK
    isplitl [HSt]; · iexact HSt
    iexact Ha0
  iintro ⟨HSt, Ha0, Hs0⟩
  iapply (wp_loadS c (m := oM) (r := cR 0 Nat.zero_lt_two) (fun _ => rfl)) $$ Ho0; iintro Ho0
  iapply (wp_storeS c (m := oM) (r := cR 0 Nat.zero_lt_two) (fun _ => rfl)) $$ Ho0; iintro Ho0
  iapply (wp_take D κ c 17 1 18 (by decide) (by decide) (by decide) (by decide) (acc D 2 1 2 c)) $$ [HSt Ha1]
  · isplitr; · iexact HK
    isplitl [HSt]; · iexact HSt
    iexact Ha1
  iintro ⟨HSt, Ha1, Hs1⟩
  iapply (wp_loadS c (m := oM) (r := cR 1 Nat.one_lt_two) (fun _ => rfl)) $$ Ho1; iintro Ho1
  iapply (wp_storeS c (m := oM) (r := cR 1 Nat.one_lt_two) (fun _ => rfl)) $$ Ho1; iintro Ho1
  iapply (runs_done c)
  iapply Hk
  unfold after input slack arrays idle
  isplitl [HSt HvB]
  · isplitl [HSt]
    · iexact HSt
    iexact HvB
  isplitl [Hx0 Hx1]
  · isplitl [Hx0]
    · iexact Hx0
    iexact Hx1
  isplitl [Ho0 Ho1]
  · isplitl [Ho0]
    · iexact Ho0
    iexact Ho1
  isplitl [Ha0 Ha1 Hs0 Hs1 Hh]
  · isplitl [Ha0 Ha1]
    · isplitl [Ha0]
      · iexact Ha0
      iexact Ha1
    isplitl [Hs0 Hs1]
    · isplitl [Hs0]
      · iexact Hs0
      iexact Hs1
    iexists _; iexact Hh
  isplitl [Hw00 Hw01 Hw10 Hw11 Hw20 Hw21]
  · isplitl [Hw00 Hw01]
    · isplitl [Hw00]
      · iexists _; iexact Hw00
      iexists _; iexact Hw01
    isplitl [Hw10 Hw11]
    · isplitl [Hw10]
      · iexists _; iexact Hw10
      iexists _; iexact Hw11
    isplitl [Hw20]
    · iexists _; iexact Hw20
    iexists _; iexact Hw21
  isplitl [Hu00 Hu01 Hu10 Hu11 Hu20 Hu21]
  · isplitl [Hu00 Hu01]
    · isplitl [Hu00]
      · iexists _; iexact Hu00
      iexists _; iexact Hu01
    isplitl [Hu10 Hu11]
    · isplitl [Hu10]
      · iexists _; iexact Hu10
      iexists _; iexact Hu11
    isplitl [Hu20]
    · iexists _; iexact Hu20
    iexists _; iexact Hu21
  isplitl [Hg0 Hg1 Hg2 Hg3 Hg4 Hg5 Hg6 Hg7]
  · isplitl [Hg0 Hg1]
    · isplitl [Hg0]
      · iexact Hg0
      iexact Hg1
    isplitl [Hg2 Hg3]
    · isplitl [Hg2]
      · iexact Hg2
      iexact Hg3
    isplitl [Hg4]
    · iexact Hg4
    isplitl [Hg5]
    · iexact Hg5
    isplitl [Hg6]
    · iexact Hg6
    iexact Hg7
  isplitl [Hv0]
  · iexact Hv0
  isplitl [Hv1]
  · iexact Hv1
  isplitl [Hv2]
  · iexact Hv2
  isplitl [Hv3]
  · iexact Hv3
  isplitl [Hv4]
  · iexact Hv4
  isplitl [Hv5]
  · iexact Hv5
  isplitl [Hv6]
  · iexact Hv6
  iexact Hv7

end Cert.Exchange

end
-- ==== Proof.Pieces.lean ====
/- A device's buffers, cut into the pieces that the kernel's body works on, and put together again afterwards. -/
module

public import proofs.«01_k».proof.Proof.Body

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (D : Data F) (c : Dev nD)

/-- A buffer of the device, whole, with any contents. -/
abbrev anyBuf (b : Ref sig .tc) : sProp 𝕄 := iprop(∃ f, ((c : Thread nD τ).loc b) ↦{fullShare} f)

/-- The first two layers' buffers as the body receives them: layer 0 in halves, the others whole. -/
def wStart : sProp 𝕄 :=
  iprop(loose (F := F) c (wS 0 0 (by decide) (by decide)) ∗ loose c (wS 0 1 (by decide) (by decide))
      ∗ loose c (wM.slice (wL 1 (by decide)) (fun _ => rfl)) ∗ loose c (wM.slice (wL 2 (by decide)) (fun _ => rfl)))
def uStart : sProp 𝕄 :=
  iprop(loose (F := F) c (uS 0 0 (by decide) (by decide)) ∗ loose c (uS 0 1 (by decide) (by decide))
      ∗ loose c (uM.slice (uL 1 (by decide)) (fun _ => rfl)) ∗ loose c (uM.slice (uL 2 (by decide)) (fun _ => rfl)))
/-- The same as the body leaves them: every layer in halves. -/
def wEnd : sProp 𝕄 :=
  iprop((loose (F := F) c (wS 0 0 (by decide) (by decide)) ∗ loose c (wS 0 1 (by decide) (by decide)))
      ∗ (loose c (wS 1 0 (by decide) (by decide)) ∗ loose c (wS 1 1 (by decide) (by decide)))
      ∗ (loose c (wS 2 0 (by decide) (by decide)) ∗ loose c (wS 2 1 (by decide) (by decide))))
def uEnd : sProp 𝕄 :=
  iprop((loose (F := F) c (uS 0 0 (by decide) (by decide)) ∗ loose c (uS 0 1 (by decide) (by decide)))
      ∗ (loose c (uS 1 0 (by decide) (by decide)) ∗ loose c (uS 1 1 (by decide) (by decide)))
      ∗ (loose c (uS 2 0 (by decide) (by decide)) ∗ loose c (uS 2 1 (by decide) (by decide))))

theorem w_cut : anyBuf (F := F) c cc0_scratch4 ⊢ wStart (F := F) c := by
  refine BIBase.Entails.trans (scatter (F := F) c cc0_scratch4 wF (fun _ _ => rfl) wF_disjoint wF_cover) ?_
  rw [bigSep_univ_eq_bigSepL [(0 : Fin 3), 1, 2] (by decide) (by decide)]
  show iprop(loose (F := F) c (wM.slice (wL 0 (by decide)) (fun _ => rfl)) ∗ loose c (wM.slice (wL 1 (by decide)) (fun _ => rfl))
    ∗ loose c (wM.slice (wL 2 (by decide)) (fun _ => rfl))) ⊢ _
  unfold wStart
  iintro ⟨H0, H⟩
  ihave H0 := (loose_cut_w c 0 lt3_0) $$ H0
  icases H0 with ⟨Ha, Hb⟩
  isplitl [Ha]; · iexact Ha
  isplitl [Hb]; · iexact Hb
  iexact H
theorem u_cut : anyBuf (F := F) c cc0_scratch5 ⊢ uStart (F := F) c := by
  refine BIBase.Entails.trans (scatter (F := F) c cc0_scratch5 uF (fun _ _ => rfl) uF_disjoint uF_cover) ?_
  rw [bigSep_univ_eq_bigSepL [(0 : Fin 3), 1, 2] (by decide) (by decide)]
  show iprop(loose (F := F) c (uM.slice (uL 0 (by decide)) (fun _ => rfl)) ∗ loose c (uM.slice (uL 1 (by decide)) (fun _ => rfl))
    ∗ loose c (uM.slice (uL 2 (by decide)) (fun _ => rfl))) ⊢ _
  unfold uStart
  iintro ⟨H0, H⟩
  ihave H0 := (loose_cut_u c 0 lt3_0) $$ H0
  icases H0 with ⟨Ha, Hb⟩
  isplitl [Ha]; · iexact Ha
  isplitl [Hb]; · iexact Hb
  iexact H

theorem w_join : wEnd (F := F) c ⊢ anyBuf (F := F) c cc0_scratch4 := by
  refine BIBase.Entails.trans ?_ (gather (F := F) c cc0_scratch4 wH (fun _ _ => rfl) wH_disjoint wH_cover)
  rw [bigSep_univ_eq_bigSepL [(0 : Fin 6), 1, 2, 3, 4, 5] (by decide) (by decide)]
  show _ ⊢ iprop(loose (F := F) c (wS 0 0 (by decide) (by decide)) ∗ loose c (wS 0 1 (by decide) (by decide))
      ∗ loose c (wS 1 0 (by decide) (by decide)) ∗ loose c (wS 1 1 (by decide) (by decide))
      ∗ loose c (wS 2 0 (by decide) (by decide)) ∗ loose c (wS 2 1 (by decide) (by decide)))
  unfold wEnd
  iintro ⟨⟨H0, H1⟩, ⟨H2, H3⟩, H⟩
  isplitl [H0]; · iexact H0
  isplitl [H1]; · iexact H1
  isplitl [H2]; · iexact H2
  isplitl [H3]; · iexact H3
  iexact H
theorem u_join : uEnd (F := F) c ⊢ anyBuf (F := F) c cc0_scratch5 := by
  refine BIBase.Entails.trans ?_ (gather (F := F) c cc0_scratch5 uH (fun _ _ => rfl) uH_disjoint uH_cover)
  rw [bigSep_univ_eq_bigSepL [(0 : Fin 6), 1, 2, 3, 4, 5] (by decide) (by decide)]
  show _ ⊢ iprop(loose (F := F) c (uS 0 0 (by decide) (by decide)) ∗ loose c (uS 0 1 (by decide) (by decide))
      ∗ loose c (uS 1 0 (by decide) (by decide)) ∗ loose c (uS 1 1 (by decide) (by decide))
      ∗ loose c (uS 2 0 (by decide) (by decide)) ∗ loose c (uS 2 1 (by decide) (by decide)))
  unfold uEnd
  iintro ⟨⟨H0, H1⟩, ⟨H2, H3⟩, H⟩
  isplitl [H0]; · iexact H0
  isplitl [H1]; · iexact H1
  isplitl [H2]; · iexact H2
  isplitl [H3]; · iexact H3
  iexact H

/-- The whole of the hidden activations' buffer as a family of one piece. -/
abbrev hF (_ : Fin 1) : Rect S64x2048 := hR
theorem hF_disjoint : ∀ t t', t ≠ t' → Disjoint (hF t).set (hF t').set := fun t t' h => absurd (Subsingleton.elim t t') h
theorem hF_cover : (Finset.univ.biUnion fun t => (hF t).set) = Finset.univ := by
  ext i
  simp only [Finset.mem_biUnion, Finset.mem_univ, true_and, iff_true]
  refine ⟨0, Rect.mem_set_unit.mpr fun a => ?_⟩
  match a with
  | ⟨0, _⟩ => exact ⟨Nat.zero_le _, (Nat.zero_add 64).symm ▸ (i 0).isLt⟩
  | ⟨1, _⟩ => exact ⟨Nat.zero_le _, (Nat.zero_add 2048).symm ▸ (i 1).isLt⟩

/-- The other scratch buffers, in pieces. -/
theorem slack_cut : iprop(anyBuf (F := F) c cc0_scratch0 ∗ anyBuf c cc0_scratch1 ∗ anyBuf c cc0_scratch2) ⊢ slack (F := F) c := by
  have ha : anyBuf (F := F) c cc0_scratch0 ⊢ iprop(loose (F := F) c (aS 0 (by decide)) ∗ loose (F := F) c (aS 1 (by decide))) := by
    have h := scatter (F := F) c cc0_scratch0 cF (fun _ _ => rfl) cF_disjoint cF_cover
    rw [bigSep_univ_eq_bigSepL [(0 : Fin 2), 1] (by decide) (by decide)] at h
    exact h
  have hh : anyBuf (F := F) c cc0_scratch1 ⊢ loose (F := F) c hS := by
    have h := scatter (F := F) c cc0_scratch1 hF (fun _ _ => rfl) hF_disjoint hF_cover
    rw [bigSep_univ_eq_bigSepL [(0 : Fin 1)] (by decide) (by decide)] at h
    exact h
  have hs : anyBuf (F := F) c cc0_scratch2 ⊢ iprop(loose (F := F) c (sS 0 (by decide)) ∗ loose (F := F) c (sS 1 (by decide))) := by
    have h := scatter (F := F) c cc0_scratch2 sF (fun _ _ => rfl) sF_disjoint sF_cover
    rw [bigSep_univ_eq_bigSepL [(0 : Fin 2), 1] (by decide) (by decide)] at h
    exact h
  unfold slack
  iintro ⟨Ha, Hh, Hs⟩
  isplitl [Ha]; · iapply ha; iexact Ha
  isplitl [Hs]; · iapply hs; iexact Hs
  iapply hh; iexact Hh
theorem slack_join : slack (F := F) c ⊢ iprop(anyBuf (F := F) c cc0_scratch0 ∗ anyBuf c cc0_scratch1 ∗ anyBuf c cc0_scratch2) := by
  have ha : iprop(loose (F := F) c (aS 0 (by decide)) ∗ loose (F := F) c (aS 1 (by decide))) ⊢ anyBuf (F := F) c cc0_scratch0 := by
    have h := gather (F := F) c cc0_scratch0 cF (fun _ _ => rfl) cF_disjoint cF_cover
    rw [bigSep_univ_eq_bigSepL [(0 : Fin 2), 1] (by decide) (by decide)] at h
    exact h
  have hh : loose (F := F) c hS ⊢ anyBuf (F := F) c cc0_scratch1 := by
    have h := gather (F := F) c cc0_scratch1 hF (fun _ _ => rfl) hF_disjoint hF_cover
    rw [bigSep_univ_eq_bigSepL [(0 : Fin 1)] (by decide) (by decide)] at h
    exact h
  have hs : iprop(loose (F := F) c (sS 0 (by decide)) ∗ loose (F := F) c (sS 1 (by decide))) ⊢ anyBuf (F := F) c cc0_scratch2 := by
    have h := gather (F := F) c cc0_scratch2 sF (fun _ _ => rfl) sF_disjoint sF_cover
    rw [bigSep_univ_eq_bigSepL [(0 : Fin 2), 1] (by decide) (by decide)] at h
    exact h
  unfold slack
  iintro ⟨Ha, Hs, Hh⟩
  isplitl [Ha]; · iapply ha; iexact Ha
  isplitl [Hh]; · iapply hh; iexact Hh
  iapply hs; iexact Hs

theorem slots_cut : anyBuf (F := F) c cc0_scratch3 ⊢ bigSep Finset.univ (anySlot (F := F) c) :=
  scatter (F := F) c cc0_scratch3 rF (fun _ _ => rfl) rF_disjoint rF_cover
theorem slots_join : bigSep Finset.univ (anySlot (F := F) c) ⊢ anyBuf (F := F) c cc0_scratch3 :=
  gather (F := F) c cc0_scratch3 rF (fun _ _ => rfl) rF_disjoint rF_cover

/-- All of the scratch buffers, in the pieces the body starts from. -/
def pieces : sProp 𝕄 := iprop(bigSep Finset.univ (anySlot (F := F) c) ∗ slack (F := F) c ∗ wStart (F := F) c ∗ uStart (F := F) c)
/-- The same, in the pieces it ends with. -/
def pieces' : sProp 𝕄 := iprop(bigSep Finset.univ (anySlot (F := F) c) ∗ slack (F := F) c ∗ wEnd (F := F) c ∗ uEnd (F := F) c)

theorem scratch_cut : (Pipeline.scopedRest (Ix := Unit) (Name := ℕ) (U := UU) (Lvl := ℕ) (Val := Elt F) spec0 c : sProp 𝕄) ⊢ pieces (F := F) c := by
  rw [scopedRest0_eq]
  unfold pieces
  iintro ⟨H0, H1, H2, H3, H4, H5⟩
  isplitl [H3]; · iapply (slots_cut (F := F) c); iexact H3
  isplitl [H0 H1 H2]
  · iapply (slack_cut (F := F) c)
    isplitl [H0]; · iexact H0
    isplitl [H1]; · iexact H1
    iexact H2
  isplitl [H4]; · iapply (w_cut (F := F) c); iexact H4
  iapply (u_cut (F := F) c); iexact H5
theorem scratch_join : pieces' (F := F) c ⊢ (Pipeline.scopedRest (Ix := Unit) (Name := ℕ) (U := UU) (Lvl := ℕ) (Val := Elt F) spec0 c : sProp 𝕄) := by
  rw [scopedRest0_eq]
  unfold pieces'
  iintro ⟨Hr, Hs, Hw, Hu⟩
  ihave Hs := (slack_join (F := F) c) $$ Hs
  icases Hs with ⟨H0, H1, H2⟩
  isplitl [H0]; · iexact H0
  isplitl [H1]; · iexact H1
  isplitl [H2]; · iexact H2
  isplitl [Hr]; · iapply (slots_join (F := F) c); iexact Hr
  isplitl [Hw]; · iapply (w_join (F := F) c); iexact Hw
  iapply (u_join (F := F) c); iexact Hu

/-! ## The weight arrays -/

/-- An array held in two pieces. -/
theorem holds_two {s : Shape} {e : EltTy} (m : Memref sig .tc .hbm s e) (ra rb : Rect s) (ha : ∀ a, ra.stride a = 1) (hb : ∀ a, rb.stride a = 1)
    (f : Buf (Elt F) (m.view.loc (c : Thread nD τ))) (hd : Disjoint ra.set rb.set) (hu : ra.set ∪ rb.set = Finset.univ) :
    (iprop(holds c (m.slice ra ha) f ∗ holds c (m.slice rb hb) f) : sProp 𝕄) ⊣⊢ holds c m f := by
  have hset : m.view.set = (m.view.slice ra).set ∪ (m.view.slice rb).set := by
    rw [View.set_slice, View.set_slice, ← Finset.map_union, hu]; rfl
  have hdis : Disjoint (m.view.slice ra).set (m.view.slice rb).set := by
    rw [View.set_slice, View.set_slice]; exact (Finset.disjoint_map _).mpr hd
  have h := pointsTo_union (ℓ := m.view.loc (c : Thread nD τ)) (q := fullShare) (f := f) (Val := Elt F) (Ix := Unit) (Name := ℕ) (U := UU) (Lvl := ℕ) hdis
  unfold holds
  rw [hset]
  exact ⟨h.2, h.1⟩

/-- The six arrays as the launch hands them out, whole. -/
def lent (V : (b : Ref sig .tc) → Buf (Elt F) ((c : Thread nD τ).loc b)) : sProp 𝕄 :=
  iprop((((c : Thread nD τ).loc main_arg1) ↦{fullShare} V main_arg1) ∗ (((c : Thread nD τ).loc main_arg2) ↦{fullShare} V main_arg2)
    ∗ (((c : Thread nD τ).loc main_arg3) ↦{fullShare} V main_arg3) ∗ (((c : Thread nD τ).loc main_arg4) ↦{fullShare} V main_arg4)
    ∗ (((c : Thread nD τ).loc main_arg5) ↦{fullShare} V main_arg5) ∗ (((c : Thread nD τ).loc main_arg6) ↦{fullShare} V main_arg6))

theorem rows_disjoint : Disjoint (Rect.unit (s := S1024x2048) ![0, 0] S512x2048.size inb_S1024x2048_S512x2048_0_0).set
    (Rect.unit (s := S1024x2048) ![512, 0] S512x2048.size inb_S1024x2048_S512x2048_512_0).set :=
  Rect.unit_disjoint (0 : Fin 2) (Or.inl (by decide : 0 + 512 ≤ 512))
theorem rows_union : (Rect.unit (s := S1024x2048) ![0, 0] S512x2048.size inb_S1024x2048_S512x2048_0_0).set
    ∪ (Rect.unit (s := S1024x2048) ![512, 0] S512x2048.size inb_S1024x2048_S512x2048_512_0).set = Finset.univ := by
  ext i
  rw [Finset.mem_union, Rect.mem_set_unit, Rect.mem_set_unit]
  have h0 : (i 0).val < 1024 := (i 0).isLt
  have h1 : (i 1).val < 2048 := (i 1).isLt
  simp only [Finset.mem_univ, iff_true]
  by_cases h : (i 0).val < 512
  · left; intro a
    match a with
    | ⟨0, _⟩ => exact ⟨Nat.zero_le _, (by omega : (i 0).val < 0 + 512)⟩
    | ⟨1, _⟩ => exact ⟨Nat.zero_le _, (by omega : (i 1).val < 0 + 2048)⟩
  · right; intro a
    match a with
    | ⟨0, _⟩ => exact ⟨(by omega : 512 ≤ (i 0).val), (by omega : (i 0).val < 512 + 512)⟩
    | ⟨1, _⟩ => exact ⟨Nat.zero_le _, (by omega : (i 1).val < 0 + 2048)⟩
theorem cols_disjoint : Disjoint (Rect.unit (s := S2048x1024) ![0, 0] S2048x512.size inb_S2048x1024_S2048x512_0_0).set
    (Rect.unit (s := S2048x1024) ![0, 512] S2048x512.size inb_S2048x1024_S2048x512_0_512).set :=
  Rect.unit_disjoint (1 : Fin 2) (Or.inl (by decide : 0 + 512 ≤ 512))
theorem cols_union : (Rect.unit (s := S2048x1024) ![0, 0] S2048x512.size inb_S2048x1024_S2048x512_0_0).set
    ∪ (Rect.unit (s := S2048x1024) ![0, 512] S2048x512.size inb_S2048x1024_S2048x512_0_512).set = Finset.univ := by
  ext i
  rw [Finset.mem_union, Rect.mem_set_unit, Rect.mem_set_unit]
  have h0 : (i 0).val < 2048 := (i 0).isLt
  have h1 : (i 1).val < 1024 := (i 1).isLt
  simp only [Finset.mem_univ, iff_true]
  by_cases h : (i 1).val < 512
  · left; intro a
    match a with
    | ⟨0, _⟩ => exact ⟨Nat.zero_le _, (by omega : (i 0).val < 0 + 2048)⟩
    | ⟨1, _⟩ => exact ⟨Nat.zero_le _, (by omega : (i 1).val < 0 + 512)⟩
  · right; intro a
    match a with
    | ⟨0, _⟩ => exact ⟨Nat.zero_le _, (by omega : (i 0).val < 0 + 2048)⟩
    | ⟨1, _⟩ => exact ⟨(by omega : 512 ≤ (i 1).val), (by omega : (i 1).val < 512 + 512)⟩

theorem holds_g1 (f : Buf (Elt F) ((c : Thread nD τ).loc main_arg1)) :
    (iprop(holds c g1A f ∗ holds c g1B f) : sProp 𝕄) ⊣⊢ iprop(((c : Thread nD τ).loc main_arg1) ↦{fullShare} f) := by
  have h := holds_two (F := F) c g1 _ _ (fun _ => rfl) (fun _ => rfl) f rows_disjoint rows_union
  have e : g1.view.set = Finset.univ := View.set_whole main_arg1
  unfold holds at h ⊢
  rw [e] at h
  exact h
theorem holds_g2 (f : Buf (Elt F) ((c : Thread nD τ).loc main_arg2)) :
    (iprop(holds c g2A f ∗ holds c g2B f) : sProp 𝕄) ⊣⊢ iprop(((c : Thread nD τ).loc main_arg2) ↦{fullShare} f) := by
  have h := holds_two (F := F) c g2 _ _ (fun _ => rfl) (fun _ => rfl) f cols_disjoint cols_union
  have e : g2.view.set = Finset.univ := View.set_whole main_arg2
  unfold holds at h ⊢
  rw [e] at h
  exact h

/-- The arrays in the pieces the body copies them in are the arrays whole. -/
theorem arrays_eq (V : (b : Ref sig .tc) → Buf (Elt F) ((c : Thread nD τ).loc b))
    (h1 : D.wi 0 c = V main_arg1) (h2 : D.wo 0 c = V main_arg2) (h3 : D.wi 1 c = V main_arg3) (h4 : D.wo 1 c = V main_arg4)
    (h5 : D.wi 2 c = V main_arg5) (h6 : D.wo 2 c = V main_arg6) : arrays D c ⊣⊢ lent (F := F) c V := by
  have e3 : g3.view.set = Finset.univ := View.set_whole main_arg3
  have e4 : g4.view.set = Finset.univ := View.set_whole main_arg4
  have e5 : g5.view.set = Finset.univ := View.set_whole main_arg5
  have e6 : g6.view.set = Finset.univ := View.set_whole main_arg6
  have i1 := holds_g1 (F := F) c (V main_arg1)
  have i2 := holds_g2 (F := F) c (V main_arg2)
  unfold arrays lent
  rw [h1, h2, h3, h4, h5, h6]
  unfold holds at i1 i2 ⊢
  rw [e3, e4, e5, e6]
  exact ⟨BIClass.sep_mono i1.1 (BIClass.sep_mono i2.1 .rfl), BIClass.sep_mono i1.2 (BIClass.sep_mono i2.2 .rfl)⟩

end Cert.Exchange

end
-- ==== Proof.Point.lean ====
/- The kernel's one region on one device: what the body is given, what it leaves, and that it is so. -/
module

public import proofs.«01_k».proof.Proof.Pieces

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.ShloMosaic.Rounds Idealize.ShloMosaic.Pipeline
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (ρ : Dev nD → PrngReg)

/-- The memory at the launch: any contents, every counter at zero. -/
def start : MemSt nD τ sig (Elt F) := ⟨m, fun _ => 0, ρ⟩

/-- The operands each device finds in its memory. -/
def dataOf : Data F where
  x c := (win0_0.blk (0 : Fin 1)).view.read (Elt F) (m ((c : Thread nD τ).loc main_arg0))
  wi l c := match l with
    | 0 => m ((c : Thread nD τ).loc main_arg1)
    | 1 => m ((c : Thread nD τ).loc main_arg3)
    | _ => m ((c : Thread nD τ).loc main_arg5)
  wo l c := match l with
    | 0 => m ((c : Thread nD τ).loc main_arg2)
    | 1 => m ((c : Thread nD τ).loc main_arg4)
    | _ => m ((c : Thread nD τ).loc main_arg6)

/-- The result block of a device: its two column halves side by side. -/
def out (D : Data F) (c : Dev nD) : Vec F S64x1024 .f32 :=
  Rect.glue cF cF_cover fun q => (outHalf D q.val c : S64x512.Idx → Elt F .f32)
theorem out_half (D : Data F) (c : Dev nD) (q : Fin 2) (j : S64x512.Idx) : out D c ((cF q).emb j) = outHalf D q.val c j :=
  Rect.glue_emb cF cF_cover cF_disjoint (fun q => (outHalf D q.val c : S64x512.Idx → Elt F .f32)) q j

variable (D : Data F) (c : Dev nD)

/-- The tokens, positions and credits the launch deals to a device. -/
def kit : sProp 𝕄 :=
  iprop((dutyTok ER (bCell (step 0 c)) 0 0 ∗ dutyTok ER (bCell (step 1 c)) 0 1 ∗ dutyTok ER (bCell (step 2 c)) 0 2)
    ∗ (atPos ER (bCell c) 0 ∅ 0 ∗ cred (tallyAt (bCell c) () 3))
    ∗ (bigSep Finset.univ fun k : Fin 18 => iprop(dutyTok ER (sCell c k) 0 0 ∗ dutyTok ER (rCell (mate k.val c) k) 0 0))
    ∗ bigSep Finset.univ (seat (F := F) c))
/-- What a device enters the region with, its scratch buffers aside. -/
def entry : sProp 𝕄 := iprop((∃ κ, known D κ) ∗ kit (F := F) c ∗ arrays D c ∗ idle (F := F) c)
def Φ₀ : sProp 𝕄 := iprop(entry D c ∗ pieces (F := F) c)
/-- What it leaves the region with: its scratch buffers, its arrays, and every counter back at zero. -/
def Φ₁ : sProp 𝕄 :=
  iprop((bigSep Finset.univ fun k : Fin 18 => iprop(semVal (sCell c k) 0 ∗ semVal (rCell c k) 0)) ∗ semVal (bCell c) 0
    ∗ idle (F := F) c ∗ arrays D c ∗ pieces' (F := F) c)

def dats (_ : Fin 1) (c : Dev nD) : Dat τ (Elt F) Unit ℕ UU ℕ cfg0 c where
  A w := (start m ρ).mem ((cfg0.win w).arr.view.loc (c : Thread nD τ))
  after w _ := match w with
    | ⟨0, _⟩ => (dataOf m).x c
    | ⟨1, _⟩ => out (dataOf m) c
  Φ t := match t with
    | ⟨0, _⟩ => Φ₀ (dataOf m) c
    | ⟨_ + 1, _⟩ => Φ₁ (dataOf m) c
  q _ := fullShare
  owed t := match t with
    | ⟨0, _⟩ => O₀ c
    | ⟨_ + 1, _⟩ => 0

theorem input_cut : owns (c : Thread nD τ) xM fullShare (D.x c) ⊢ input D c := by
  have h := owns_rects (c : Thread nD τ) xM fullShare cF (fun _ _ => rfl) cF_disjoint cF_cover (D.x c)
    (Ix := Unit) (Name := ℕ) (U := UU) (Lvl := ℕ) (Val := Elt F)
  rw [bigSep_univ_eq_bigSepL [(0 : Fin 2), 1] (by decide) (by decide)] at h
  exact h
theorem input_join : input D c ⊢ owns (c : Thread nD τ) xM fullShare (D.x c) := by
  have h := owns_of_rects (c : Thread nD τ) xM fullShare cF (fun _ _ => rfl) cF_disjoint cF_cover (D.x c)
    (Ix := Unit) (Name := ℕ) (U := UU) (Lvl := ℕ) (Val := Elt F)
  rw [bigSep_univ_eq_bigSepL [(0 : Fin 2), 1] (by decide) (by decide)] at h
  exact h
theorem output_cut (X : S64x1024.Idx → Elt F .f32) : (owns (c : Thread nD τ) oM fullShare X : sProp 𝕄)
    ⊢ iprop(loose (F := F) c (oS 0 (by decide)) ∗ loose (F := F) c (oS 1 (by decide))) := by
  have h := owns_rects (c : Thread nD τ) oM fullShare cF (fun _ _ => rfl) cF_disjoint cF_cover X
    (Ix := Unit) (Name := ℕ) (U := UU) (Lvl := ℕ) (Val := Elt F)
  rw [bigSep_univ_eq_bigSepL [(0 : Fin 2), 1] (by decide) (by decide)] at h
  have h' : (owns (c : Thread nD τ) oM fullShare X : sProp 𝕄)
      ⊢ iprop(owns (c : Thread nD τ) (oS 0 (by decide)) fullShare (fun j => X ((cF 0).emb j)) ∗ owns (c : Thread nD τ) (oS 1 (by decide)) fullShare (fun j => X ((cF 1).emb j))) := h
  unfold loose
  refine BIBase.Entails.trans h' ?_
  iintro ⟨H0, H1⟩
  isplitl [H0]; · iexists _; iexact H0
  iexists _; iexact H1
theorem output_join : iprop(owns (c : Thread nD τ) (oS 0 (by decide)) fullShare (outHalf D 0 c) ∗ owns (c : Thread nD τ) (oS 1 (by decide)) fullShare (outHalf D 1 c))
    ⊢ (owns (c : Thread nD τ) oM fullShare (out D c) : sProp 𝕄) := by
  have h := owns_of_rects (c : Thread nD τ) oM fullShare cF (fun _ _ => rfl) cF_disjoint cF_cover (out D c)
    (Ix := Unit) (Name := ℕ) (U := UU) (Lvl := ℕ) (Val := Elt F)
  rw [bigSep_univ_eq_bigSepL [(0 : Fin 2), 1] (by decide) (by decide)] at h
  have e0 : (fun j => out D c ((cF 0).emb j)) = (outHalf D 0 c : S64x512.Idx → Elt F .f32) := funext (out_half D c 0)
  have e1 : (fun j => out D c ((cF 1).emb j)) = (outHalf D 1 c : S64x512.Idx → Elt F .f32) := funext (out_half D c 1)
  have h' : iprop(owns (c : Thread nD τ) (oS 0 (by decide)) fullShare (fun j => out D c ((cF 0).emb j)) ∗ owns (c : Thread nD τ) (oS 1 (by decide)) fullShare (fun j => out D c ((cF 1).emb j)))
    ⊢ (owns (c : Thread nD τ) oM fullShare (out D c) : sProp 𝕄) := h
  exact BIBase.Entails.trans (BIClass.sep_mono (Entails.of_eq (congrArg (owns (c : Thread nD τ) (oS 0 (by decide)) fullShare) e0.symm))
    (Entails.of_eq (congrArg (owns (c : Thread nD τ) (oS 1 (by decide)) fullShare) e1.symm))) h'

/-- What the region's point starts from, in the body's words. -/
theorem gather_before (X : S64x1024.Idx → Elt F .f32) :
    iprop(kit (F := F) c ∗ arrays D c ∗ idle (F := F) c ∗ pieces (F := F) c ∗ (∃ W, owes (c : Thread nD τ) (O₀ c) W)
      ∗ owns (c : Thread nD τ) xM fullShare (D.x c) ∗ owns (c : Thread nD τ) oM fullShare X) ⊢ before D c := by
  unfold kit pieces before StB
  iintro ⟨⟨Ht, Hb, Hd, Hs⟩, Ha, Hi, ⟨Hsl, Hk, Hw, Hu⟩, HO, Hx, Ho⟩
  isplitl [Ht Hb Hd Hs Hsl HO]
  · isplitl [HO]; · iexact HO
    isplitl [Ht]; · iexact Ht
    isplitl [Hsl]; · iexact Hsl
    isplitl [Hb]; · iexact Hb
    isplitl [Hd]; · iexact Hd
    iexact Hs
  isplitl [Hx]; · iapply (input_cut D c); iexact Hx
  isplitl [Ho]; · iapply (output_cut (F := F) c X); iexact Ho
  isplitl [Hk]; · iexact Hk
  isplitl [Hw]; · unfold wStart; iexact Hw
  isplitl [Hu]; · unfold uStart; iexact Hu
  isplitl [Ha]; · iexact Ha
  iexact Hi

/-- The copies' counters and the landing slots, at the end. -/
theorem ash_cut : bigSep Finset.univ (ash (F := F) c)
    ⊢ iprop((bigSep Finset.univ fun k : Fin 18 => iprop(semVal (sCell c k) 0 ∗ semVal (rCell c k) 0)) ∗ bigSep Finset.univ (anySlot (F := F) c)) := by
  rw [← bigSep_sep']
  refine bigSep_mono fun k _ => show ash (F := F) c k ⊢ iprop((semVal (sCell c k) 0 ∗ semVal (rCell c k) 0) ∗ anySlot (F := F) c k) by
    unfold ash
    iintro ⟨H0, H1, H2⟩
    isplitl [H0 H1]
    · isplitl [H0] <;> iassumption
    iexact H2

/-- What the body ends with is what the region's point must leave. -/
theorem after_leaves : after D c ⊢ iprop(Φ₁ D c ∗ (∃ W, owes (c : Thread nD τ) 0 W)
    ∗ owns (c : Thread nD τ) xM fullShare (D.x c) ∗ owns (c : Thread nD τ) oM fullShare (out D c)) := by
  unfold after Φ₁ pieces' St StW
  rw [Ow_all, past_all]
  iintro ⟨⟨⟨HO, -, -, -, Hash⟩, Hb⟩, Hx, Ho, Hk, Hw, Hu, Ha, Hi⟩
  ihave Hash := (ash_cut (F := F) c) $$ Hash
  icases Hash with ⟨Hs, Hsl⟩
  isplitl [Hs Hb Hi Ha Hsl Hk Hw Hu]
  · isplitl [Hs]; · iexact Hs
    isplitl [Hb]; · iexact Hb
    isplitl [Hi]; · iexact Hi
    isplitl [Ha]; · iexact Ha
    isplitl [Hsl]; · iexact Hsl
    isplitl [Hk]; · iexact Hk
    isplitl [Hw]; · unfold wEnd; iexact Hw
    unfold uEnd; iexact Hu
  isplitl [HO]; · iexact HO
  isplitl [Hx]; · iapply (input_join D c); iexact Hx
  iapply (output_join D c); iexact Ho

theorem point_zero (t : Fin cfg0.N) : t = (t0_0 : Fin cfg0.N) := fin_N0 t

/-- What the point starts from and ends with. -/
def atEntry : sProp 𝕄 :=
  iprop(Φ₀ (dataOf m) c ∗ (dats m ρ 0 c).owesAt () (t0_0 : Fin cfg0.N).castSucc
    ∗ (∃ d, owns (c : Thread nD τ) xM fullShare ((dats m ρ 0 c).before (0 : Fin 2) t0_0 d))
    ∗ (∃ d, owns (c : Thread nD τ) oM fullShare ((dats m ρ 0 c).before (1 : Fin 2) t0_0 d)))
def atExit : sProp 𝕄 :=
  iprop(Φ₁ (dataOf m) c ∗ (dats m ρ 0 c).owesAt () (t0_0 : Fin cfg0.N).succ
    ∗ owns (c : Thread nD τ) xM fullShare ((dataOf m).x c) ∗ owns (c : Thread nD τ) oM fullShare (out (dataOf m) c))

/-- The body obligation of the region on device `c`. -/
theorem body_obligation : BodyObligation (dats (F := F) m ρ 0 c) (defs₀ (F := F)) 𝒱₀ () Set.univ := fun t => by
  rw [point_zero t]
  rw [bigSep_W0, bigSep_W0]
  show atEntry m ρ c ⊢ Runs c (cc0_body xM (Memref.isWhole_whole _) g1 (Memref.isWhole_whole _) g2 (Memref.isWhole_whole _) g3 (Memref.isWhole_whole _)
          g4 (Memref.isWhole_whole _) g5 (Memref.isWhole_whole _) g6 (Memref.isWhole_whole _) oM (Memref.isWhole_whole _)
          aM (Memref.isWhole_whole _) hM (Memref.isWhole_whole _) sM (Memref.isWhole_whole _) rM (Memref.isWhole_whole _)
          wM (Memref.isWhole_whole _) uM (Memref.isWhole_whole _) cc0_scratch6 cc0_scratch7 cc0_scratch8) (fun _ => atExit m ρ c)
  unfold atEntry Φ₀ entry
  iintro ⟨⟨⟨⟨%κ, #HK⟩, Hkit, Ha, Hi⟩, Hp⟩, HO, ⟨%d0, Hx⟩, ⟨%d1, Ho⟩⟩
  rw [show (dats m ρ 0 c).before (0 : Fin 2) t0_0 d0 = (dataOf m).x c by unfold Dat.before; rw [if_pos (fetch0_0 t0_0)]; rfl]
  unfold Dat.owesAt Pipeline.owesWithin
  icases HO with ⟨%W, -, HO⟩
  iapply (body_runs (dataOf m) κ c fun _ => atExit m ρ c)
  isplitr; · iexact HK
  isplitl [Hkit Ha Hi Hp HO Hx Ho]
  · iapply (gather_before (dataOf m) c ((dats m ρ 0 c).before (1 : Fin 2) t0_0 d1))
    isplitl [Hkit]; · iexact Hkit
    isplitl [Ha]; · iexact Ha
    isplitl [Hi]; · iexact Hi
    isplitl [Hp]; · iexact Hp
    isplitl [HO]; · iexists W; iexact HO
    isplitl [Hx]; · iexact Hx
    iexact Ho
  iintro H
  ihave H := (after_leaves (dataOf m) c) $$ H
  icases H with ⟨H1, ⟨%W', HO⟩, Hx, Ho⟩
  unfold atExit
  isplitl [H1]; · iexact H1
  isplitl [HO]
  · unfold Dat.owesAt Pipeline.owesWithin
    iexists W'
    isplitr; · ipureintro; exact fun _ _ => Or.inl trivial
    iexact HO
  isplitl [Hx]; · iexact Hx
  iexact Ho

end Cert.Exchange

end
-- ==== Proof.Deal.lean ====
/- Dealing at the launch: the invariants of every device's cells from the counters at zero, and to each device the
   positions of its own cells and the tokens of the duties that it will pay. -/
module

public import proofs.«01_k».proof.Proof.Point

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.ShloMosaic.Rounds Idealize.ShloMosaic.Pipeline
open Idealize.SL.BI.BIBase Idealize.SL.BI.Laws Idealize.SL.ProofMode Idealize.SL.Sem

variable {F : FTy → Type} [FloatOps F]

local notation "𝕄" => MT nD τ sig Unit (Elt F) ℕ UU ℕ

/-! ## The kernel's own counters -/

abbrev Own : Type := Fin 8 ⊕ (Fin 18 ⊕ Fin 18)
def osem : Own → SemLoc sig
  | .inl j => .dma (ldS j.val j.isLt)
  | .inr (.inl k) => .dma (sdS k.val k.isLt)
  | .inr (.inr k) => .dma (rvS k.val k.isLt)

theorem osem_injective : Function.Injective osem := by
  rintro (j | j | j) (k | k | k) h <;> have h := congrArg Fin.val (SemLoc.dma.inj h)
  · rw [ldS_val, ldS_val] at h; exact congrArg _ (Fin.ext (by omega))
  · rw [ldS_val, sdS_val] at h; omega
  · rw [ldS_val, rvS_val] at h; omega
  · rw [sdS_val, ldS_val] at h; omega
  · rw [sdS_val, sdS_val] at h; exact congrArg _ (congrArg _ (Fin.ext (by omega)))
  · rw [sdS_val, rvS_val] at h; omega
  · rw [rvS_val, ldS_val] at h; omega
  · rw [rvS_val, sdS_val] at h; omega
  · rw [rvS_val, rvS_val] at h; exact congrArg _ (congrArg _ (Fin.ext (by omega)))

theorem stage_low : ∀ w s, ((cfg0.spec w).sem s).val < 2 := by decide
theorem own_facts : Pipeline.OwnSemFacts cfg0.spec osem where
  isScoped := by decide
  inj := osem_injective
  disj k w s h := by
    have hw := stage_low w s
    rcases k with j | k | k <;> have h := congrArg Fin.val (SemLoc.dma.inj h)
    · rw [ldS_val] at h; omega
    · rw [sdS_val] at h; omega
    · rw [rvS_val] at h; omega

variable (D : Data F) (c : Dev nD)

/-- A family over a device's cells is its barrier's member, its sending cells' and its receiving cells'. -/
theorem over_cells (Φ : GSem nD τ sig → sProp 𝕄) : (bigSep Finset.univ fun i : Ci => Φ (cellAt (c, i)))
    = iprop(Φ (bCell c) ∗ (bigSep Finset.univ fun k => Φ (sCell c k)) ∗ bigSep Finset.univ fun k => Φ (rCell c k)) := by
  rw [bigSep_univ_sum, bigSep_univ_sum, bigSep_univ_eq_bigSepL [()] (by decide) (by decide)]
  rfl

theorem idle_eq : idle (F := F) c = bigSep Finset.univ fun j : Fin 8 => semVal ((c : Thread nD τ), osem (.inl j)) 0 := by
  rw [bigSep_univ_eq_bigSepL [(0 : Fin 8), 1, 2, 3, 4, 5, 6, 7] (by decide) (by decide)]
  rfl
theorem own_eq : (Pipeline.ownSems0 (Ix := Unit) (Name := ℕ) (U := UU) (Lvl := ℕ) (Val := Elt F) (τ := τ) osem c : sProp 𝕄)
    = iprop(idle (F := F) c ∗ (bigSep Finset.univ fun k => semVal (sCell c k) 0) ∗ bigSep Finset.univ fun k => semVal (rCell c k) 0) := by
  unfold Pipeline.ownSems0
  rw [bigSep_univ_sum, bigSep_univ_sum, idle_eq]
  rfl
theorem free_eq : (unscopedSems0 c : sProp 𝕄) = semVal (bCell c) 0 := by
  unfold unscopedSems0; rw [bigSep_eq_bigSepL_of_eq [SemLoc.reg barS] (by decide) (by decide)]; rfl
/-- The counters the launch hands a device, by cells. -/
theorem counters : iprop(Pipeline.ownSems0 (Ix := Unit) (Name := ℕ) (U := UU) (Lvl := ℕ) (Val := Elt F) (τ := τ) osem c ∗ unscopedSems0 c)
    ⊢ (iprop((bigSep Finset.univ fun i : Ci => semVal (cellAt (c, i)) 0) ∗ idle (F := F) c) : sProp 𝕄) := by
  rw [own_eq, free_eq, over_cells c (fun g => semVal g 0)]
  iintro ⟨⟨Hi, Hs, Hr⟩, Hb⟩
  isplitr [Hi]
  · isplitl [Hb]; · iexact Hb
    isplitl [Hs] <;> iassumption
  iexact Hi

/-! ## The launch element -/

def cells : Finset (GSem nD τ sig) := Finset.univ.map ⟨cellAt, cellAt_injective⟩

abbrev Ti : Type := Fin 3 ⊕ (Fin 18 ⊕ Fin 18)
/-- The cell of a token, and its duty. -/
def tokCell : Ti → Ci
  | .inl _ => .inl ()
  | .inr x => .inr x
def tokDuty : Ti → Fin 3
  | .inl d => d
  | .inr _ => 0
def tokAt (x : Dev nD × Ti) : GSem nD τ sig × ℕ × Fin 3 := (cellAt (x.1, tokCell x.2), 0, tokDuty x.2)
theorem tokAt_injective : Function.Injective tokAt := by
  rintro ⟨c, t⟩ ⟨c', t'⟩ h
  have h1 := Prod.mk.inj (cellAt_injective (congrArg Prod.fst h))
  have h2 : tokDuty t = tokDuty t' := congrArg (fun x : GSem nD τ sig × ℕ × Fin 3 => x.2.2) h
  obtain ⟨rfl, h1⟩ := h1
  rcases t with d | x <;> rcases t' with d' | x'
  · exact congrArg (fun d => (c, (Sum.inl d : Ti))) h2
  · exact absurd h1 (by intro e; cases e)
  · exact absurd h1 (by intro e; cases e)
  · exact congrArg (fun x => (c, (Sum.inr x : Ti))) (Sum.inr.inj h1)
def tokens : Finset (GSem nD τ sig × ℕ × Fin 3) := Finset.univ.map ⟨tokAt, tokAt_injective⟩

/-- The launch element: the pipeline's cells, the exchange's cells, no transfer counted. -/
def u₀ : UU := (initOf (Pipeline.cells cfgs cellOf_inj) (Pipeline.launchToks cfgs cellOf_inj), (initOf cells tokens, 1))

/-- The tokens of the device's own cells. -/
def minted : sProp 𝕄 :=
  iprop((bigSep Finset.univ fun d : Fin 3 => dutyTok ER (bCell c) 0 d) ∗ (bigSep Finset.univ fun k : Fin 18 => dutyTok ER (sCell c k) 0 0)
    ∗ bigSep Finset.univ fun k : Fin 18 => dutyTok ER (rCell c k) 0 0)
/-- What the launch element gives a device. -/
def given : sProp 𝕄 :=
  iprop((bigSep Finset.univ fun i : Ci => roundState ER (Rd D) (cellAt (c, i)) 0) ∗ (bigSep Finset.univ fun i : Ci => reached ER (cellAt (c, i)) 0)
    ∗ (bigSep Finset.univ fun i : Ci => atPos ER (cellAt (c, i)) 0 ∅ 0) ∗ minted (F := F) c)

theorem over_all (Φ : GSem nD τ sig → sProp 𝕄) : bigSep cells Φ = bigSep Finset.univ fun c : Dev nD => bigSep Finset.univ fun i : Ci => Φ (cellAt (c, i)) := by
  unfold cells; rw [bigSep_map, bigSep_univ_prod]; rfl
theorem over_pairs (Φ : GSem nD τ sig → sProp 𝕄) : bigSep cells Φ = bigSep Finset.univ fun x : Dev nD × Ci => Φ (cellAt x) := by
  unfold cells; rw [bigSep_map]; rfl
theorem over_tokens : bigSep tokens (fun x => (dutyTok ER x.1 x.2.1 x.2.2 : sProp 𝕄)) = bigSep Finset.univ fun c : Dev nD => minted (F := F) c := by
  unfold tokens; rw [bigSep_map, bigSep_univ_prod]
  exact bigSep_congr fun c _ => by unfold minted; rw [bigSep_univ_sum, bigSep_univ_sum]; rfl

theorem fund_exchange : BI.own (ER (initOf cells tokens)) ⊢ (|==> bigSep Finset.univ (given D) : sProp 𝕄) := by
  iintro H
  imod (Rounds.fund ER (Rd D) cells tokens) $$ H with ⟨Hst, Hr, Hat, Htok⟩
  imodintro
  ihave Hst := (Entails.of_eq (over_all fun g => roundState ER (Rd D) g 0)) $$ Hst
  ihave Hr := (Entails.of_eq (over_all fun g => reached ER g 0)) $$ Hr
  ihave Hat := (Entails.of_eq (over_all fun g => atPos ER g 0 ∅ 0)) $$ Hat
  ihave Htok := (Entails.of_eq (over_tokens (F := F))) $$ Htok
  unfold given; simp only [bigSep_sep']
  isplitl [Hst]; · iexact Hst
  isplitl [Hr]; · iexact Hr
  isplitl [Hat]; · iexact Hat
  iexact Htok

theorem launch_split : (ownU (u₀ : UU) : sProp 𝕄)
    ⊢ iprop(BI.own (EP (initOf (Pipeline.cells cfgs cellOf_inj) (Pipeline.launchToks cfgs cellOf_inj))) ∗ BI.own (ER (initOf cells tokens))) :=
  BI.own_op_elim ((uEmb (nD := nD) (sig := sig) (Ix := Unit) (Val := Elt F) (Name := ℕ) (U := UU) (Lvl := ℕ)).toEmb.op_of_mem
    (Prod.mk_mem_op (URA.mem_op_one _) (URA.mem_one_op (_, (1 : Counters)))))

/-! ## Dealing the tokens to those who pay -/

/-- The tokens of the duties a device pays. -/
def paid : sProp 𝕄 :=
  iprop((dutyTok ER (bCell (step 0 c)) 0 0 ∗ dutyTok ER (bCell (step 1 c)) 0 1 ∗ dutyTok ER (bCell (step 2 c)) 0 2)
    ∗ bigSep Finset.univ fun k : Fin 18 => iprop(dutyTok ER (sCell c k) 0 0 ∗ dutyTok ER (rCell (mate k.val c) k) 0 0))

def across (d : ℕ) : Dev nD ≃ Dev nD := ⟨step d, step d, step_step d, step_step d⟩
def acrossAll : Dev nD × Fin 18 ≃ Dev nD × Fin 18 :=
  ⟨fun x => (mate x.2.val x.1, x.2), fun x => (mate x.2.val x.1, x.2), fun x => Prod.ext (step_step _ _) rfl, fun x => Prod.ext (step_step _ _) rfl⟩

theorem deal_bar : (bigSep Finset.univ fun c : Dev nD => bigSep Finset.univ fun d : Fin 3 => (dutyTok ER (bCell c) 0 d : sProp 𝕄))
    = bigSep Finset.univ fun c : Dev nD => iprop(dutyTok ER (bCell (step 0 c)) 0 0 ∗ dutyTok ER (bCell (step 1 c)) 0 1 ∗ dutyTok ER (bCell (step 2 c)) 0 2) := by
  rw [bigSep_congr (s := Finset.univ) (fun (c : Dev nD) _ => bigSep_univ_eq_bigSepL [(0 : Fin 3), 1, 2] (by decide) (by decide) (fun d : Fin 3 => (dutyTok ER (bCell c) 0 d : sProp 𝕄)))]
  show (bigSep Finset.univ fun c : Dev nD => (iprop(dutyTok ER (bCell c) 0 0 ∗ dutyTok ER (bCell c) 0 1 ∗ dutyTok ER (bCell c) 0 2) : sProp 𝕄)) = _
  rw [bigSep_sep', bigSep_sep', bigSep_sep', bigSep_sep',
    bigSep_univ_equiv (across 0) (fun c : Dev nD => (dutyTok ER (bCell c) 0 0 : sProp 𝕄)),
    bigSep_univ_equiv (across 1) (fun c : Dev nD => (dutyTok ER (bCell c) 0 1 : sProp 𝕄)),
    bigSep_univ_equiv (across 2) (fun c : Dev nD => (dutyTok ER (bCell c) 0 2 : sProp 𝕄))]
  rfl
theorem deal_recv : (bigSep Finset.univ fun c : Dev nD => bigSep Finset.univ fun k : Fin 18 => (dutyTok ER (rCell c k) 0 0 : sProp 𝕄))
    = bigSep Finset.univ fun c : Dev nD => bigSep Finset.univ fun k : Fin 18 => (dutyTok ER (rCell (mate k.val c) k) 0 0 : sProp 𝕄) := by
  rw [← bigSep_univ_prod (fun x : Dev nD × Fin 18 => (dutyTok ER (rCell x.1 x.2) 0 0 : sProp 𝕄)),
    ← bigSep_univ_prod (fun x : Dev nD × Fin 18 => (dutyTok ER (rCell (mate x.2.val x.1) x.2) 0 0 : sProp 𝕄)),
    bigSep_univ_equiv acrossAll (fun x : Dev nD × Fin 18 => (dutyTok ER (rCell x.1 x.2) 0 0 : sProp 𝕄))]
  rfl
theorem deal : (bigSep Finset.univ fun c : Dev nD => minted (F := F) c) ⊢ bigSep Finset.univ fun c : Dev nD => paid (F := F) c := by
  unfold minted paid
  rw [bigSep_sep', bigSep_sep', bigSep_sep', deal_bar, deal_recv,
    bigSep_congr (s := Finset.univ) (fun (c : Dev nD) _ => bigSep_sep' Finset.univ (fun k : Fin 18 => (dutyTok ER (sCell c k) 0 0 : sProp 𝕄)) (fun k => dutyTok ER (rCell (mate k.val c) k) 0 0)),
    bigSep_sep', bigSep_sep', bigSep_sep']

/-! ## The step all devices take together -/

/-- What is a device's own after it. -/
def owned : sProp 𝕄 :=
  iprop((atPos ER (bCell c) 0 ∅ 0 ∗ (bigSep Finset.univ fun k => atPos ER (sCell c k) 0 ∅ 0) ∗ bigSep Finset.univ fun k => atPos ER (rCell c k) 0 ∅ 0)
    ∗ paid (F := F) c ∗ idle (F := F) c)
/-- What all devices know. -/
def records (κ : GSem nD τ sig → ℕ) : sProp 𝕄 :=
  iprop((bigSep Finset.univ fun x : Dev nD × Ci => cellInv ER (Rd D) (κ (cellAt x)) (cellAt x)) ∗ bigSep Finset.univ fun x : Dev nD × Ci => reached ER (cellAt x) 0)
instance records_persistent (κ : GSem nD τ sig → ℕ) : BI.Persistent (records D κ) := by unfold records; infer_instance
def dealt : sProp 𝕄 := iprop((∃ κ, records D κ) ∗ owned (F := F) c)

theorem zip_three (A B C : Dev nD → sProp 𝕄) : iprop(bigSep Finset.univ A ∗ bigSep Finset.univ B ∗ bigSep Finset.univ C)
    ⊢ bigSep Finset.univ fun c => iprop(A c ∗ B c ∗ C c) := by
  rw [← bigSep_sep', ← bigSep_sep']

theorem open_cells : iprop((bigSep cells fun g => (semVal g 0 : sProp 𝕄)) ∗ bigSep cells fun g => roundState ER (Rd D) g 0)
    ⊢ |={Set.univ}=> iprop(∃ κ : GSem nD τ sig → ℕ, bigSep cells fun g => cellInv ER (Rd D) (κ g) g) := by
  refine (Rounds.bodies_intro ER (Rd D) cells).trans ((inv_alloc_family cells (Rounds.body ER (Rd D)) ∅ (E := Set.univ)).trans ?_)
  iintro H
  imod H with ⟨%κ, -, Hinv⟩
  imodintro; iexists κ; iexact Hinv

theorem share_out (κ : GSem nD τ sig → ℕ) : iprop(records D κ ∗ bigSep Finset.univ fun c : Dev nD => owned (F := F) c) ⊢ bigSep Finset.univ (dealt D) := by
  refine BIBase.Entails.trans (sep_mono_left (BI.bigSep_of_persistent (Finset.univ : Finset (Dev nD)) (records D κ))) ?_
  rw [← bigSep_sep']
  exact bigSep_mono fun c _ => show iprop(records D κ ∗ owned (F := F) c) ⊢ dealt D c by
    unfold dealt
    iintro ⟨H, Ho⟩
    isplitl [H]; · iexists κ; iexact H
    iexact Ho

theorem together : (bigSep Finset.univ fun c => iprop(Pipeline.ownSems0 (Ix := Unit) (Name := ℕ) (U := UU) (Lvl := ℕ) (Val := Elt F) (τ := τ) osem c ∗ unscopedSems0 c ∗ given D c) : sProp 𝕄)
    ⊢ |={Set.univ}=> bigSep Finset.univ (dealt D) := by
  refine BIBase.Entails.trans (bigSep_mono fun c _ => show iprop(Pipeline.ownSems0 (Ix := Unit) (Name := ℕ) (U := UU) (Lvl := ℕ) (Val := Elt F) (τ := τ) osem c ∗ unscopedSems0 c ∗ given D c)
      ⊢ iprop((bigSep Finset.univ fun i : Ci => semVal (cellAt (c, i)) 0) ∗ (bigSep Finset.univ fun i : Ci => roundState ER (Rd D) (cellAt (c, i)) 0)
        ∗ (bigSep Finset.univ fun i : Ci => reached ER (cellAt (c, i)) 0) ∗ (bigSep Finset.univ fun i : Ci => atPos ER (cellAt (c, i)) 0 ∅ 0) ∗ minted (F := F) c ∗ idle (F := F) c) by
    unfold given
    iintro ⟨Ho, Hf, H1, H2, H3, H4⟩
    ihave H := (counters (F := F) c) $$ [Ho Hf]
    · isplitl [Ho] <;> iassumption
    icases H with ⟨Hc, Hi⟩
    isplitl [Hc]; · iexact Hc
    isplitl [H1]; · iexact H1
    isplitl [H2]; · iexact H2
    isplitl [H3]; · iexact H3
    isplitl [H4]; · iexact H4
    iexact Hi) ?_
  rw [bigSep_sep', bigSep_sep', bigSep_sep', bigSep_sep', bigSep_sep', ← over_all (fun g => semVal g 0), ← over_all (fun g => roundState ER (Rd D) g 0),
    ← over_all (fun g => reached ER g 0), over_pairs (fun g => reached ER g 0)]
  iintro ⟨Hv, Hst, Hr, Hat, Htok, Hi⟩
  imod (open_cells D) $$ [Hv Hst] with ⟨%κ, HI⟩
  · isplitl [Hv] <;> iassumption
  imodintro
  ihave HI := (Entails.of_eq (over_pairs fun g => cellInv ER (Rd D) (κ g) g)) $$ HI
  ihave Htok := (deal (F := F)) $$ Htok
  iapply (share_out D κ)
  isplitl [HI Hr]
  · unfold records; isplitl [HI]; · iexact HI
    iexact Hr
  ihave Hat := (Entails.of_eq (bigSep_congr (s := Finset.univ) (fun (c : Dev nD) _ => over_cells c (fun g => (atPos ER g 0 ∅ 0 : sProp 𝕄))))) $$ Hat
  iapply (zip_three (F := F) (fun c => iprop(atPos ER (bCell c) 0 ∅ 0 ∗ (bigSep Finset.univ fun k => atPos ER (sCell c k) 0 ∅ 0) ∗ bigSep Finset.univ fun k => atPos ER (rCell c k) 0 ∅ 0))
    (paid (F := F)) (idle (F := F)))
  isplitl [Hat]; · iexact Hat
  isplitl [Htok]; · iexact Htok
  iexact Hi

end Cert.Exchange

end
-- ==== Proof.Launch.lean ====
/- The launch of the kernel on all devices: the credits each device starts with, and the run of the whole program. -/
module

public import proofs.«01_k».proof.Proof.Deal
public import Idealize.ShloMosaic.Lib.Pipeline.CollectiveSegs
public import Idealize.ShloMosaic.Lib.Quiescent

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.ShloMosaic.Rounds Idealize.ShloMosaic.Pipeline
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (ρ : Dev nD → PrngReg) (D : Data F) (c : Dev nD)

/-! ## The credits at the launch -/

theorem knock_at (d e : Dev nD) (j : ℕ) : knock d j (bCell e) () = if d = step j e then 1 else 0 := by
  unfold knock
  rw [tallyAt_apply]
  by_cases h : d = step j e
  · subst h; rw [step_step, if_pos ⟨rfl, rfl⟩, if_pos rfl]
  · rw [if_neg (fun h' => h (by rw [bCell_inj h'.1, step_step])), if_neg h]
theorem Ow_at_bar (d e : Dev nD) (n : ℕ) : Ow n d (bCell e) () = 0 := by
  by_contra h
  obtain ⟨d', k, h', _⟩ := Ow_pos (Nat.pos_of_ne_zero h)
  exact bCell_ne_rCell h'
theorem O₀_at_bar (d e : Dev nD) : O₀ d (bCell e) () = (if d = step 2 e then 1 else 0) + (if d = step 1 e then 1 else 0) + (if d = step 0 e then 1 else 0) := by
  unfold O₀
  rw [Pi.add_apply, Finsupp.add_apply, Pi.add_apply, Finsupp.add_apply, Pi.add_apply, Finsupp.add_apply, Ow_at_bar, knock_at, knock_at, knock_at, Nat.zero_add]
theorem knock_at_recv (d e : Dev nD) (j : ℕ) (k : Fin 18) : knock d j (rCell e k) () = 0 := by
  unfold knock
  rw [tallyAt_apply, if_neg (fun h => bCell_ne_rCell h.1.symm)]
theorem due_at (d e : Dev nD) (j k : Fin 18) : due d j (rCell e k) () = if j = k then (if d = mate k.val e then N else 0) else 0 := by
  unfold due
  rw [tallyAt_apply]
  by_cases h : j = k
  · subst h
    rw [if_pos rfl]
    by_cases h : d = mate j.val e
    · subst h; rw [if_pos rfl, if_pos ⟨by rw [show mate j.val (mate j.val e) = e from step_step _ _], rfl⟩]
    · rw [if_neg h, if_neg (fun h' => h (by rw [(rCell_inj h'.1).1]; exact (step_step _ _).symm))]
  · rw [if_neg h, if_neg (fun h' => h (rCell_inj h'.1).2.symm)]
theorem O₀_at_recv (d e : Dev nD) (k : Fin 18) : O₀ d (rCell e k) () = if d = mate k.val e then N else 0 := by
  unfold O₀
  rw [Pi.add_apply, Finsupp.add_apply, Pi.add_apply, Finsupp.add_apply, Pi.add_apply, Finsupp.add_apply, knock_at_recv, knock_at_recv, knock_at_recv]
  simp only [Nat.add_zero]
  unfold Ow
  rw [sum_tally_apply, rest_zero, Finset.sum_congr rfl fun j _ => due_at d e j k, Finset.sum_ite_eq' Finset.univ k fun _ => if d = mate k.val e then N else 0,
    if_pos (Finset.mem_univ _)]

theorem credit_bar : tallyOn (bCell c) (launchCredit (Pipeline.owing O₀) 0 (bCell c)) = (tallyAt (bCell c) () 3 : CellTallies nD τ sig Unit) := by
  unfold tallyAt; refine congrArg _ (Finsupp.ext fun u => ?_); cases u
  rw [Pipeline.launchCredit_owing, Finsupp.single_eq_same, Finset.sum_congr rfl fun d _ => O₀_at_bar d c, Finset.sum_add_distrib, Finset.sum_add_distrib,
    Finset.sum_ite_eq' Finset.univ (step 2 c) fun _ => 1, Finset.sum_ite_eq' Finset.univ (step 1 c) fun _ => 1, Finset.sum_ite_eq' Finset.univ (step 0 c) fun _ => 1,
    if_pos (Finset.mem_univ _), if_pos (Finset.mem_univ _), if_pos (Finset.mem_univ _)]
theorem credit_recv (k : Fin 18) : tallyOn (rCell c k) (launchCredit (Pipeline.owing O₀) 0 (rCell c k)) = (tallyAt (rCell c k) () N : CellTallies nD τ sig Unit) := by
  unfold tallyAt; refine congrArg _ (Finsupp.ext fun u => ?_); cases u
  rw [Pipeline.launchCredit_owing, Finsupp.single_eq_same, Finset.sum_congr rfl fun d _ => O₀_at_recv d c k, Finset.sum_ite_eq' Finset.univ (mate k.val c) fun _ => N,
    if_pos (Finset.mem_univ _)]

/-- The receiving counters among all counters. -/
def recvSem : Fin 18 ↪ SemLoc sig :=
  ⟨fun k => .dma (rvS k.val k.isLt), fun j k h => (rCell_inj (c := (0 : Dev nD)) (d := (0 : Dev nD)) (congrArg (fun s => (((0 : Dev nD) : Thread nD τ), s)) h)).2⟩

theorem credits : (Pipeline.launchCred O₀ c : sProp 𝕄) ⊢ iprop(cred (tallyAt (bCell c) () 3) ∗ bigSep Finset.univ fun k : Fin 18 => cred (tallyAt (rCell c k) () N)) := by
  unfold Pipeline.launchCred
  rw [bigSep_univ_at _ (SemLoc.reg barS), credit_bar]
  refine sep_mono_right ?_
  have hsub : Finset.univ.map recvSem ⊆ Finset.univ.erase (SemLoc.reg barS) := fun s hs => by
    obtain ⟨k, -, rfl⟩ := Finset.mem_map.mp hs
    exact Finset.mem_erase.mpr ⟨fun h => (nomatch (show SemLoc.dma (rvS k.val k.isLt) = SemLoc.reg barS from h)), Finset.mem_univ _⟩
  refine BIBase.Entails.trans (BI.bigSep_subset hsub) ?_
  rw [bigSep_map]
  exact bigSep_mono fun k _ => Entails.of_eq (congrArg cred (credit_recv c k))

/-! ## In and out of the region -/

/-- The weight arrays at the launch. -/
abbrev held : sProp 𝕄 := lent (F := F) c (fun b => m ((c : Thread nD τ).loc b))

theorem arrays_in : held m c ⊢ arrays (dataOf m) c := (arrays_eq (dataOf m) c (fun b => m ((c : Thread nD τ).loc b)) rfl rfl rfl rfl rfl rfl).2
theorem arrays_out : arrays (dataOf m) c ⊢ held m c := (arrays_eq (dataOf m) c (fun b => m ((c : Thread nD τ).loc b)) rfl rfl rfl rfl rfl rfl).1

theorem seats : iprop((bigSep Finset.univ fun k => atPos ER (sCell c k) 0 ∅ 0) ∗ (bigSep Finset.univ fun k => atPos ER (rCell c k) 0 ∅ 0)
    ∗ bigSep Finset.univ fun k : Fin 18 => cred (tallyAt (rCell c k) () N)) ⊢ bigSep Finset.univ (seat (F := F) c) := by
  rw [← bigSep_sep', ← bigSep_sep']
  exact bigSep_mono fun k _ => show iprop(atPos ER (sCell c k) 0 ∅ 0 ∗ atPos ER (rCell c k) 0 ∅ 0 ∗ cred (tallyAt (rCell c k) () N)) ⊢ seat (F := F) c k from .rfl

theorem enters :
    iprop(Pipeline.unscopedRestP Pipeline.Prefetch.none cfg0.spec c (fun b => m ((c : Thread nD τ).loc b)) ∗ levAts L lv
        ∗ Pipeline.launchCred O₀ c ∗ prngReg c (ρ c) ∗ dealt (dataOf m) c)
      ⊢ |={Set.univ}=> iprop(entry (dataOf m) c ∗ emp) := by
  rw [Pipeline.unscopedRestP_none, show (Pipeline.unscopedRest cfg0.spec c (fun b => m ((c : Thread nD τ).loc b)) : sProp 𝕄) = held m c from unscopedRest0_eq c _]
  unfold dealt owned paid
  iintro ⟨Ha, #Hlev, Hcr, -, ⟨%κ, #HR⟩, ⟨HaB, HaS, HaR⟩, ⟨HtB, HtK⟩, Hi⟩
  ihave Hcr := (credits (F := F) c) $$ Hcr
  icases Hcr with ⟨HcB, HcR⟩
  imodintro
  isplitl; swap; · iempintro
  unfold entry kit
  isplitr
  · iexists κ
    unfold known records
    icases HR with ⟨HR1, HR2⟩
    isplitl [HR1]; · iexact HR1
    isplitl [HR2]; · iexact HR2
    iexact Hlev
  isplitl [HaB HaS HaR HtB HtK HcB HcR]
  · isplitl [HtB]; · iexact HtB
    isplitl [HaB HcB]
    · isplitl [HaB] <;> iassumption
    isplitl [HtK]; · iexact HtK
    iapply (seats (F := F) c)
    isplitl [HaS]; · iexact HaS
    isplitl [HaR]; · iexact HaR
    iexact HcR
  isplitl [Ha]; · iapply (arrays_in m c); iexact Ha
  iexact Hi

theorem begins :
    iprop(entry (dataOf m) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ (dataOf m) c from rfl]
  unfold Φ₀
  iintro ⟨He, -, Hs⟩
  isplitl [He]; · iexact He
  iapply (scratch_cut (F := F) c); iexact Hs

/-- What a device hands back. -/
def returned : sProp 𝕄 := iprop(unscopedSems0 c ∗ held m c)

theorem ends : (dats m ρ 0 c).Φ (Fin.last cfg0.N) ⊢ iprop(returned m c ∗ Pipeline.ownSems0 osem c ∗ Pipeline.scopedRest cfg0.spec c) := by
  rw [show (dats m ρ 0 c).Φ (Fin.last cfg0.N) = Φ₁ (dataOf m) c from rfl, own_eq]
  unfold Φ₁ returned
  rw [free_eq, bigSep_sep']
  iintro ⟨⟨Hs, Hr⟩, Hb, Hi, Ha, Hp⟩
  isplitl [Hb Ha]
  · isplitl [Hb]; · iexact Hb
    iapply (arrays_out m c); iexact Ha
  isplitl [Hs Hr Hi]
  · isplitl [Hi]; · iexact Hi
    isplitl [Hs] <;> iassumption
  iapply (scratch_join (F := F) c); iexact Hp

/-- The weight arrays hold what they held. -/
def kept (s : MemSt nD τ sig (Elt F)) : Prop :=
  s.mem ((c.tc : Thread nD τ).loc main_arg1) = m ((c.tc : Thread nD τ).loc main_arg1) ∧ s.mem ((c.tc : Thread nD τ).loc main_arg2) = m ((c.tc : Thread nD τ).loc main_arg2)
    ∧ s.mem ((c.tc : Thread nD τ).loc main_arg3) = m ((c.tc : Thread nD τ).loc main_arg3) ∧ s.mem ((c.tc : Thread nD τ).loc main_arg4) = m ((c.tc : Thread nD τ).loc main_arg4)
    ∧ s.mem ((c.tc : Thread nD τ).loc main_arg5) = m ((c.tc : Thread nD τ).loc main_arg5) ∧ s.mem ((c.tc : Thread nD τ).loc main_arg6) = m ((c.tc : Thread nD τ).loc main_arg6)

theorem read_one (b : Ref sig .tc) (s' : Phys nD τ sig (Elt F)) (f : Buf (Elt F) ((c : Thread nD τ).loc b)) :
    iprop((((c : Thread nD τ).loc b) ↦{fullShare} f) ∗ SI s') ⊢ iprop(⌜s'.mem.mem ((c.tc : Thread nD τ).loc b) = f⌝ ∗ SI s' : sProp 𝕄) := by
  iintro ⟨Hx, HSI⟩
  ihave H := (persistent_entails_right (SI_pointsTo_agree (st := s') (ℓ := (c : Thread nD τ).loc b) (I := Finset.univ) (q := fullShare) (f := f))) $$ [HSI Hx]
  · isplitl [HSI] <;> iassumption
  icases H with ⟨%hx, HSI, -⟩
  isplitr; · ipureintro; exact funext fun i => hx i (Finset.mem_univ i)
  iexact HSI

theorem read_held (s' : Phys nD τ sig (Elt F)) : iprop(held m c ∗ SI s') ⊢ iprop(⌜kept m c s'.mem⌝ ∗ SI s' : sProp 𝕄) := by
  unfold held lent
  iintro ⟨⟨H1, H2, H3, H4, H5, H6⟩, HSI⟩
  ihave H := (read_one c main_arg1 s' _) $$ [H1 HSI]; · isplitl [H1] <;> iassumption
  icases H with ⟨%h1, HSI⟩
  ihave H := (read_one c main_arg2 s' _) $$ [H2 HSI]; · isplitl [H2] <;> iassumption
  icases H with ⟨%h2, HSI⟩
  ihave H := (read_one c main_arg3 s' _) $$ [H3 HSI]; · isplitl [H3] <;> iassumption
  icases H with ⟨%h3, HSI⟩
  ihave H := (read_one c main_arg4 s' _) $$ [H4 HSI]; · isplitl [H4] <;> iassumption
  icases H with ⟨%h4, HSI⟩
  ihave H := (read_one c main_arg5 s' _) $$ [H5 HSI]; · isplitl [H5] <;> iassumption
  icases H with ⟨%h5, HSI⟩
  ihave H := (read_one c main_arg6 s' _) $$ [H6 HSI]; · isplitl [H6] <;> iassumption
  icases H with ⟨%h6, HSI⟩
  isplitr; · ipureintro; exact ⟨h1, h2, h3, h4, h5, h6⟩
  iexact HSI

theorem waits : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

theorem share_eq (w : Fin cfg0.W) : (dats m ρ 0 c).share w = fullShare := by unfold Dat.share; split <;> rfl

/-! ## The run -/

/-- What every final state satisfies: the region's arrays as computed, the weights unchanged, every counter at zero. -/
def Done (r : PUnit × MemSt nD τ sig (Elt F)) : Prop :=
  (∀ c : Dev nD, (∀ w : Fin cfg0.W, r.2.mem ((cfg0.win w).arr.view.loc (c : Thread nD τ)) = (dats m ρ 0 c).arrAt w cfg0.N) ∧ kept m c r.2) ∧ r.2.sem = fun _ => 0

set_option maxRecDepth 8000 in
/-- From any memory with its counters at zero, every weakly fair run of the program on all devices ends, and ends so. -/
theorem run_main : θ_run defs (onTc (τ := τ) (main (F := F))) (start m ρ) (Done m ρ) :=
  Pipeline.θ_run_region_owing_glob_pf (fun p => (cfgs p).toPCfg) (fun p => (cfgs p).toPCfg_adm) (dats m ρ) () cellOf_inj (0 : Fin 1)
    winFacts0.to₀ own_facts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := given (dataOf m)) (G' := dealt (dataOf m)) (u₀ := u₀)
    (hu₀ := by
      iintro Hu
      ihave H := (launch_split (F := F)) $$ Hu
      icases H with ⟨HP, HX⟩
      imod (fund_exchange (dataOf m)) $$ HX with HG
      imodintro
      isplitl [HP] <;> iassumption)
    (hglob := together (dataOf m))
    (hA := fun _ _ => rfl) (hpf := fun _ k => k.elim0)
    (X := entry (dataOf m)) (Y := returned m) (Z := fun _ => iprop(emp))
    (hX := enters m ρ) (hin := begins m ρ) (hout := ends m ρ)
    (QY := fun c s => kept m c s ∧ ∀ sm : SemLoc sig, sm.isScoped .tc = false → s.sem ((c.tc : Thread nD τ), sm) = 0)
    (hY := fun c s' => by
      unfold returned
      iintro ⟨⟨Hu, Ha⟩, -, HSI⟩
      ihave H := (read_held m c s') $$ [Ha HSI]
      · isplitl [Ha] <;> iassumption
      icases H with ⟨%hk, HSI⟩
      imod (Pipeline.unscopedSems0_read (X := unscopedSems0 c) (c := c) fupd_intro s') $$ [Hu HSI] with ⟨%hz, HSI⟩
      · isplitl [Hu] <;> iassumption
      imodintro
      isplitr; · ipureintro; exact ⟨hk, hz⟩
      iexact HSI)
    (hQ := fun _ h hs => ⟨fun c => ⟨fun w => (h c).1 w, (h c).2.2.1⟩, sem_eq_zero hs fun c => (h c).2.2.2⟩)

end Cert.Exchange

end
-- ==== Proof.Frames.lean ====
/- The program read after its run: the arguments unchanged, the result array what the body computed, and the
   two frames, the original program's from the idealized one's run, whose text it shares. -/
module

public import proofs.«01_k».proof.Proof.Launch
public import proofs.«01_k».proof.Defs
public import proofs.«01_k».proof.Proof.Gen.Kernel
public import proofs.«01_k».proof.Proof.Gen.ReferenceIdeal.Run

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

variable (m : (ℓ : Loc nD τ sig) → Buf (Elt F) ℓ) (ρ : Dev nD → PrngReg)

/-! ## The arrays at the end -/

/-- The activations' array is only read: it ends as it began. -/
theorem input_kept (c : Dev nD) : (dats m ρ 0 c).arrAt (0 : Fin 2) cfg0.N = m ((c : Thread nD τ).loc main_arg0) :=
  (dats m ρ 0 c).arrAt_in (0 : Fin 2) rfl _

/-- The one block of the activations is the whole array. -/
theorem x_whole (c : Dev nD) : (dataOf m).x c = m ((c : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _

/-- The result array's one block is the whole array, and the point leaves there what the body computed. -/
theorem result (c : Dev nD) : (dats m ρ 0 c).arrAt (1 : Fin 2) cfg0.N = out (dataOf m) c := by
  have h : (win0_1.blk (0 : Fin 1)).view.read (Elt F) ((dats m ρ 0 c).arrAt (1 : Fin 2) cfg0.N) = out (dataOf m) c := by
    rw [show cfg0.N = ((0 : Fin 1) : Fin cfg0.N).val + 1 from rfl, (dats m ρ 0 c).arrAt_succ (1 : Fin 2) (0 : Fin 1),
      show (cfg0.win (1 : Fin 2)).flush (0 : Fin 1) = true from by decide, if_pos rfl]
    exact View.read_write_univ _ _
  have hz : (fun a => (win0_1.index (0 : Fin 1)) a * main_v1.ty.shape.size a) = fun _ => 0 := funext fun a => by fin_cases a <;> decide
  exact (Memref.read_access_unit_zero (Elt F) main_v1 hz (fun a => by fin_cases a <;> decide) _).symm.trans h

/-! ## The frames -/

variable {m ρ} in
/-- What a final state says of the arguments. -/
theorem Done.args {r : PUnit × MemSt nD τ sig (Elt F)} (h : Done m ρ r) (c : Dev nD) :
    r.2.mem ((c.tc : Thread nD τ).loc main_arg0) = m ((c.tc : Thread nD τ).loc main_arg0) ∧ kept m c r.2 :=
  ⟨((h.1 c).1 (0 : Fin 2)).trans (input_kept m ρ c), (h.1 c).2⟩

variable {m ρ} in
/-- What a final state says of the result. -/
theorem Done.res {r : PUnit × MemSt nD τ sig (Elt F)} (h : Done m ρ r) (c : Dev nD) :
    r.2.mem ((c.tc : Thread nD τ).loc main_v1) = out (dataOf m) c := ((h.1 c).1 (1 : Fin 2)).trans (result m ρ c)

/-- Every run ends, its arguments and counters as they began. -/
theorem frame_any : θ_run (defs (F := F)) (onTc (τ := τ) main) ⟨m, fun _ => 0, ρ⟩ (fun r => (∀ c : Dev nD,
    r.2.mem ((c.tc : Thread nD τ).loc main_arg0) = m ((c.tc : Thread nD τ).loc main_arg0) ∧ kept m c r.2) ∧ r.2.sem = fun _ => 0) :=
  (θ_run defs _ _).mono (fun _ h => ⟨h.args, h.2⟩) (run_main m ρ)

/-- The idealized program's frame. -/
theorem frame_ideal : Cert.quiescent_KernelIdeal := fun m ρ _ => frame_any m ρ

/-- The two programs' body tables agree at every label. -/
theorem same_bodies : @Cert.Kernel.defs₀ Bits _ _ = @Cert.KernelIdeal.defs₀ Bits _ _ := by
  funext p l a
  cases p <;> first | rfl | skip
  match l, a with
  | 0, (t, s) => rfl

/-- And with their pipelines' bodies. -/
theorem same_defs : @Cert.Kernel.defs Bits _ _ = @Cert.KernelIdeal.defs Bits _ _ :=
  congrArg (Pipeline.defs (Cert.KernelIdeal.pcfgs (F := Bits))) same_bodies

/-- The original program's frame: its text is the same. -/
theorem frame_kernel : Cert.quiescent_Kernel := fun m ρ _ => by
  have h := frame_any (F := Bits) m ρ
  rw [← same_defs] at h
  exact h

/-- The plain program runs, its arguments end as they began, and it has no counters. -/
theorem frame_plain : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

end Cert.Exchange

end
-- ==== Proof.Products.lean ====
/- What the kernel's own operations compute at extended reals, element by element: its four products as sums,
   its addition of a received block, and what it sends. -/
module

public import proofs.«01_k».proof.Proof.Values
public import Idealize.ShloMosaic.Lib.ValueIdx
public import Idealize.ShloMosaic.Lib.ValueLayout
public import Idealize.ShloMosaic.Lib.MatmulPlain

@[expose] public section

noncomputable section

namespace Cert.Exchange

open Cert.KernelIdeal Cert.KernelIdeal.Gen
open Idealize.ShloMosaic Idealize.ShloMosaic.ValueIdx
open scoped BigOperators

/-- A product into the hidden columns, from a zero accumulator. -/
theorem wide_apply (a : FVec Ideal S64x512 .f32) (b : FVec Ideal S512x2048 .f32) (i : Fin 64) (t : Fin 2048) :
    (matmul dot_S64x512_S512x2048_S64x2048_1_0_0_1_n_n none a b (constant S64x2048 .f32 0x00000000#32) : FVec Ideal S64x2048 .f32) (ix2 i t)
      = ∑ k : Fin 512, a (ix2 i k) * b (ix2 k t) := by
  rw [show dot_S64x512_S512x2048_S64x2048_1_0_0_1_n_n = DotDims.plain 64 512 2048 from rfl]
  refine (Ideal.matmul_plain_apply none a b (constant S64x2048 .f32 0x00000000#32) i t).trans ?_
  rw [constant_apply, Ideal.ofBits_zero_f32, zero_add]

/-- A product into half the columns, from a zero accumulator. -/
theorem narrow_apply (a : FVec Ideal S64x2048 .f32) (b : FVec Ideal S2048x512 .f32) (i : Fin 64) (j : Fin 512) :
    (matmul dot_S64x2048_S2048x512_S64x512_1_0_0_1_n_n none a b (constant S64x512 .f32 0x00000000#32) : FVec Ideal S64x512 .f32) (ix2 i j)
      = ∑ t : Fin 2048, a (ix2 i t) * b (ix2 t j) := by
  rw [show dot_S64x2048_S2048x512_S64x512_1_0_0_1_n_n = DotDims.plain 64 2048 512 from rfl]
  refine (Ideal.matmul_plain_apply none a b (constant S64x512 .f32 0x00000000#32) i j).trans ?_
  rw [constant_apply, Ideal.ofBits_zero_f32, zero_add]

/-- The first layer's hidden activations. -/
theorem first_hidden (a b : Vec Ideal S64x512 .f32) (u v : Vec Ideal S1x512x2048 .f32) (i : Fin 64) (t : Fin 2048) :
    k0_pay2 a u b v (ix2 i t)
      = max (∑ k : Fin 512, a (ix2 i k) * u (ix3 (0 : Fin 1) k t) + ∑ k : Fin 512, b (ix2 i k) * v (ix3 (0 : Fin 1) k t)) 0 := by
  unfold k0_pay2
  rw [maximumf_apply, addf_apply, wide_apply, wide_apply]
  simp only [shapeCast_self]
  have hu : ∀ k : Fin 512, shapeCast S512x2048 u shapeCasts_S1x512x2048_S512x2048 (ix2 k t) = u (ix3 (0 : Fin 1) k t) :=
    fun k => shapeCast_1ab_ab_apply u shapeCasts_S1x512x2048_S512x2048 k t
  have hv : ∀ k : Fin 512, shapeCast S512x2048 v shapeCasts_S1x512x2048_S512x2048 (ix2 k t) = v (ix3 (0 : Fin 1) k t) :=
    fun k => shapeCast_1ab_ab_apply v shapeCasts_S1x512x2048_S512x2048 k t
  simp only [hu, hv]
  exact congrArg (max _) Ideal.ofBits_zero_f32

/-- A later layer's: the left half's product, stored, then the right half's added. -/
theorem later_hidden (a b : FVec Ideal S64x512 .f32) (u v : Vec Ideal S1x512x2048 .f32) (i : Fin 64) (t : Fin 2048) :
    k0_pay24 b (k0_pay22 a u) v (ix2 i t)
      = max (∑ k : Fin 512, a (ix2 i k) * u (ix3 (0 : Fin 1) k t) + ∑ k : Fin 512, b (ix2 i k) * v (ix3 (0 : Fin 1) k t)) 0 := by
  unfold k0_pay24 k0_pay22
  rw [maximumf_apply, addf_apply, wide_apply]
  simp only [shapeCast_self]
  rw [wide_apply]
  have hu : ∀ k : Fin 512, shapeCast S512x2048 u shapeCasts_S1x512x2048_S512x2048 (ix2 k t) = u (ix3 (0 : Fin 1) k t) :=
    fun k => shapeCast_1ab_ab_apply u shapeCasts_S1x512x2048_S512x2048 k t
  have hv : ∀ k : Fin 512, shapeCast S512x2048 v shapeCasts_S1x512x2048_S512x2048 (ix2 k t) = v (ix3 (0 : Fin 1) k t) :=
    fun k => shapeCast_1ab_ab_apply v shapeCasts_S1x512x2048_S512x2048 k t
  simp only [hu, hv]
  exact congrArg (max _) Ideal.ofBits_zero_f32

/-- A device's own part of the layer's output. -/
theorem part_apply (h : FVec Ideal S64x2048 .f32) (o : Vec Ideal S1x2048x512 .f32) (i : Fin 64) (j : Fin 512) :
    k0_pay3 h o (ix2 i j) = ∑ t : Fin 2048, h (ix2 i t) * o (ix3 (0 : Fin 1) t j) := by
  unfold k0_pay3
  rw [narrow_apply]
  refine Fintype.sum_congr _ _ fun t => ?_
  rw [shapeCast_1ab_ab_apply]

/-- What is received of a running sum is that sum. -/
theorem pass_apply (a b : FVec Ideal S64x512 .f32) (i : Fin 64) (j : Fin 512) :
    k0_pay9 a (pack b) (ix2 i j) = a (ix2 i j) + b (ix2 i j) := by
  unfold k0_pay9 pack
  rw [addf_apply, extf_apply, shapeCast_1ab_ab_apply, shapeCast_ab_1ab_apply, truncf_apply]

end Cert.Exchange

end
-- ==== Proof.Whole.lean ====
/- The mathematics, with no program in it: a layer as sums of extended reals, how its sums split by column halves
   and by devices, and that the three exchange steps leave the sum over all devices on every device. -/
module

public import proofs.«01_k».proof.Proof.Values
public import Idealize.ShloMosaic.Lib.ValueIdx

@[expose] public section

noncomputable section

namespace Cert.Exchange

open Idealize.ShloMosaic Idealize.ShloMosaic.ValueIdx
open scoped BigOperators

/-! ## A layer -/

/-- A matrix of extended reals. -/
abbrev Mat (a b : ℕ) := Fin a → Fin b → EReal

/-- An array read by its two coordinates. -/
def mat {a b : ℕ} (f : (⟨2, ![a, b]⟩ : Shape).Idx → EReal) : Mat a b := fun i j => f (ix2 i j)

/-- The hidden activations: the product with the first matrix, its negative elements replaced by zero. -/
def hidden (X : Mat 64 1024) (W : Mat 1024 16384) : Mat 64 16384 := fun i h => max (∑ k, X i k * W k h) 0

/-- The layer's output: the hidden activations times the second matrix. -/
def layer (X : Mat 64 1024) (W : Mat 1024 16384) (V : Mat 16384 1024) : Mat 64 1024 := fun i j => ∑ h, hidden X W i h * V h j

/-- The activations after `l` layers. -/
def through (X : Mat 64 1024) (W : ℕ → Mat 1024 16384) (V : ℕ → Mat 16384 1024) : ℕ → Mat 64 1024
  | 0 => X
  | l + 1 => layer (through X W V l) (W l) (V l)

/-! ## Splitting the sums -/

/-- Column `k` of the left half. -/
def lef (k : Fin 512) : Fin 1024 := ⟨k.val, by omega⟩
/-- Column `k` of the right half. -/
def rig (k : Fin 512) : Fin 1024 := ⟨512 + k.val, by omega⟩
/-- Hidden column `t` of device `d`. -/
def own (d : Fin 8) (t : Fin 2048) : Fin 16384 := ⟨d.val * 2048 + t.val, by omega⟩

/-- A sum over the columns is the sum over the left and the sum over the right half. -/
theorem sum_halves (f : Fin 1024 → EReal) : ∑ k, f k = ∑ k, f (lef k) + ∑ k, f (rig k) :=
  Fin.sum_univ_add (a := 512) (b := 512) f

/-- A sum over the hidden columns is the devices' sums, summed. -/
theorem sum_devices (f : Fin 16384 → EReal) : ∑ h, f h = ∑ d : Fin 8, ∑ t : Fin 2048, f (own d t) := by
  rw [← Fintype.sum_prod_type' (fun d t => f (own d t)), ← Equiv.sum_comp (finProdFinEquiv (m := 8) (n := 2048)) f]
  refine Fintype.sum_congr _ _ fun p => congrArg f (Fin.ext ?_)
  show p.2.val + 2048 * p.1.val = p.1.val * 2048 + p.2.val
  omega

/-! ## The exchange -/

/-- What a device has after `r` steps of the exchange, if at each step partners add what they have. -/
def gathered (f : Fin 8 → EReal) (q : ℕ) : ℕ → Fin 8 → EReal
  | 0, c => f c
  | r + 1, c => gathered f q r c + gathered f q r (step ((r + q) % 3) c)

/-- The partners, listed. -/
theorem partners : ∀ c : Fin 8, step 0 c = (![1, 0, 3, 2, 5, 4, 7, 6] : Fin 8 → Fin 8) c
    ∧ step 1 c = (![3, 2, 1, 0, 7, 6, 5, 4] : Fin 8 → Fin 8) c ∧ step 2 c = (![4, 5, 6, 7, 0, 1, 2, 3] : Fin 8 → Fin 8) c := by decide

/-- After three steps every device has the sum over all devices, in either order of the steps. -/
theorem gathered_all (f : Fin 8 → EReal) (q : Fin 2) (c : Fin 8) : gathered f q.val 3 c = ∑ d, f d := by
  have h0 : ∀ c : Fin 8, step 0 c = (![1, 0, 3, 2, 5, 4, 7, 6] : Fin 8 → Fin 8) c := fun c => (partners c).1
  have h1 : ∀ c : Fin 8, step 1 c = (![3, 2, 1, 0, 7, 6, 5, 4] : Fin 8 → Fin 8) c := fun c => (partners c).2.1
  have h2 : ∀ c : Fin 8, step 2 c = (![4, 5, 6, 7, 0, 1, 2, 3] : Fin 8 → Fin 8) c := fun c => (partners c).2.2
  rw [Fin.sum_univ_eight]
  fin_cases q
  · show f c + f (step 0 c) + (f (step 1 c) + f (step 0 (step 1 c)))
      + (f (step 2 c) + f (step 0 (step 2 c)) + (f (step 1 (step 2 c)) + f (step 0 (step 1 (step 2 c))))) = _
    simp only [h0, h1, h2]
    fin_cases c <;> simp <;> abel
  · show f c + f (step 1 c) + (f (step 2 c) + f (step 1 (step 2 c)))
      + (f (step 0 c) + f (step 1 (step 0 c)) + (f (step 2 (step 0 c)) + f (step 1 (step 2 (step 0 c))))) = _
    simp only [h0, h1, h2]
    fin_cases c <;> simp <;> abel

end Cert.Exchange

end
-- ==== Proof.Layers.lean ====
/- The kernel's contents at extended reals are the layers': if every device starts from its part of the whole
   arrays, its hidden activations are its columns of the layer's, and after a layer's three exchange steps every
   device holds the whole layer's output. -/
module

public import proofs.«01_k».proof.Proof.Products
public import proofs.«01_k».proof.Proof.Whole

@[expose] public section

noncomputable section

namespace Cert.Exchange

open Cert.KernelIdeal Cert.KernelIdeal.Gen
open Idealize.ShloMosaic Idealize.ShloMosaic.ValueIdx
open scoped BigOperators

/-- Column `j` of half `q`. -/
def half (q : ℕ) (j : Fin 512) : Fin 1024 := if q = 0 then lef j else rig j

/-- The devices' arrays are their parts of whole ones: the activations a copy, of each first matrix the device's
    columns, of each second matrix the device's rows. -/
structure Parts (D : Data Ideal) (X : Mat 64 1024) (W : ℕ → Mat 1024 16384) (V : ℕ → Mat 16384 1024) : Prop where
  x : ∀ c i k, D.x c (ix2 i k) = X i k
  wi : ∀ l (c : Dev nD) k t, D.wi l c (ix2 k t) = W l k (own c t)
  wo : ∀ l (c : Dev nD) t j, D.wo l c (ix2 t j) = V l (own c t) j

/-- Where a rectangle's element lies in the array it is cut from. -/
theorem corner_emb {A B a b : ℕ} (o p : ℕ) (inb : ∀ k, (![o, p] : Fin 2 → ℕ) k + (![a, b] : Fin 2 → ℕ) k ≤ (⟨2, ![A, B]⟩ : Shape).size k)
    (i : Fin a) (j : Fin b) (I : Fin A) (J : Fin B) (hI : I.val = o + i.val) (hJ : J.val = p + j.val) :
    (Rect.unit (s := ⟨2, ![A, B]⟩) ![o, p] ![a, b] inb).emb (ix2 i j) = ix2 I J := by
  funext k
  refine Fin.ext ?_
  match k with
  | ⟨0, _⟩ => show o + 1 * i.val = I.val; omega
  | ⟨1, _⟩ => show p + 1 * j.val = J.val; omega

section Reads

variable (D : Data Ideal) (l : ℕ) (c : Dev nD)

theorem xA_apply (i : Fin 64) (k : Fin 512) : xA D c (ix2 i k) = D.x c (ix2 i (lef k)) :=
  congrArg (D.x c) (corner_emb 0 0 _ i k i (lef k) (Nat.zero_add _).symm (Nat.zero_add _).symm)
theorem xB_apply (i : Fin 64) (k : Fin 512) : xB D c (ix2 i k) = D.x c (ix2 i (rig k)) :=
  congrArg (D.x c) (corner_emb 0 512 _ i k i (rig k) (Nat.zero_add _).symm rfl)
theorem wA_apply (k : Fin 512) (t : Fin 2048) : wA D l c (ix3 (0 : Fin 1) k t) = D.wi l c (ix2 (lef k) t) :=
  (shapeCast_ab_1ab_apply (a := 512) (b := 2048) _ (by decide) 0 k t).trans
    (congrArg (D.wi l c) (corner_emb 0 0 _ k t (lef k) t (Nat.zero_add _).symm (Nat.zero_add _).symm))
theorem wB_apply (k : Fin 512) (t : Fin 2048) : wB D l c (ix3 (0 : Fin 1) k t) = D.wi l c (ix2 (rig k) t) :=
  (shapeCast_ab_1ab_apply (a := 512) (b := 2048) _ (by decide) 0 k t).trans
    (congrArg (D.wi l c) (corner_emb 512 0 _ k t (rig k) t rfl (Nat.zero_add _).symm))
theorem oA_apply (t : Fin 2048) (j : Fin 512) : oA D l c (ix3 (0 : Fin 1) t j) = D.wo l c (ix2 t (lef j)) :=
  (shapeCast_ab_1ab_apply (a := 2048) (b := 512) _ (by decide) 0 t j).trans
    (congrArg (D.wo l c) (corner_emb 0 0 _ t j t (lef j) (Nat.zero_add _).symm (Nat.zero_add _).symm))
theorem oB_apply (t : Fin 2048) (j : Fin 512) : oB D l c (ix3 (0 : Fin 1) t j) = D.wo l c (ix2 t (rig j)) :=
  (shapeCast_ab_1ab_apply (a := 2048) (b := 512) _ (by decide) 0 t j).trans
    (congrArg (D.wo l c) (corner_emb 0 512 _ t j t (rig j) (Nat.zero_add _).symm rfl))
theorem oW_apply (q : ℕ) (t : Fin 2048) (j : Fin 512) : oW D l q c (ix3 (0 : Fin 1) t j) = D.wo l c (ix2 t (half q j)) := by
  unfold oW half
  split
  · exact oA_apply D l c t j
  · exact oB_apply D l c t j

end Reads

/-- The running sums are the exchange of the devices' own parts. -/
theorem acc_gathered (D : Data Ideal) (l q r : ℕ) (c : Dev nD) (i : Fin 64) (j : Fin 512) :
    acc D l q r c (ix2 i j) = gathered (fun d => acc D l q 0 d (ix2 i j)) q r c := by
  induction r generalizing c with
  | zero => rfl
  | succ r ih => rw [acc_succ, pass_apply, ih, ih]; rfl

variable {D : Data Ideal} {X : Mat 64 1024} {W : ℕ → Mat 1024 16384} {V : ℕ → Mat 16384 1024}

/-- After the exchange: the whole layer's output, from the devices' columns of its hidden activations. -/
theorem layer_out (P : Parts D X W V) (l : ℕ) {Y : Mat 64 1024} (h : ∀ (c : Dev nD) i t, hid D l c (ix2 i t) = hidden Y (W l) i (own c t))
    (q : Fin 2) (c : Dev nD) (i : Fin 64) (j : Fin 512) : acc D l q.val 3 c (ix2 i j) = layer Y (W l) (V l) i (half q.val j) := by
  rw [acc_gathered, gathered_all]
  unfold layer
  rw [sum_devices]
  refine Fintype.sum_congr _ _ fun d => ?_
  rw [acc_zero, part_apply]
  refine Fintype.sum_congr _ _ fun t => ?_
  rw [h, oW_apply, P.wo]

/-- Every device's hidden activations are its columns of the layer's. -/
theorem hid_eq (P : Parts D X W V) (l : ℕ) : ∀ (c : Dev nD) i t, hid D l c (ix2 i t) = hidden (through X W V l) (W l) i (own c t) := by
  induction l with
  | zero =>
    intro c i t
    show k0_pay2 (xA D c) (wA D 0 c) (xB D c) (wB D 0 c) (ix2 i t) = _
    rw [first_hidden]
    unfold hidden
    rw [sum_halves]
    simp only [xA_apply, xB_apply, wA_apply, wB_apply, P.x, P.wi]
    rfl
  | succ l ih =>
    intro c i t
    have hA := layer_out P l ih 0 c
    have hB := layer_out P l ih 1 c
    rw [hid_succ, later_hidden]
    unfold hidden
    rw [sum_halves]
    simp only [wA_apply, wB_apply, P.wi]
    have eA : ∀ k, acc D l 0 3 c (ix2 i k) = through X W V (l + 1) i (lef k) := fun k => hA i k
    have eB : ∀ k, acc D l 1 3 c (ix2 i k) = through X W V (l + 1) i (rig k) := fun k => hB i k
    simp only [eA, eB]

/-- Each half of the output block on every device: the columns of the activations after three layers. -/
theorem outHalf_eq (P : Parts D X W V) (q : Fin 2) (c : Dev nD) (i : Fin 64) (j : Fin 512) :
    outHalf D q.val c (ix2 i j) = through X W V 3 i (half q.val j) := layer_out P 2 (hid_eq P 2) q c i j

end Cert.Exchange

end
-- ==== Proof.Plain.lean ====
/- The plain program's result: three layers of its arguments. -/
module

public import proofs.«01_k».proof.Proof.Gen.ReferenceIdeal.Read
public import proofs.«01_k».proof.Proof.Whole

@[expose] public section

noncomputable section

namespace Cert.Exchange.Plain

open Cert.ReferenceIdeal Cert.ReferenceIdeal.Read
open Idealize.ShloMosaic Idealize.ShloMosaic.ValueIdx
open scoped BigOperators

/-- The contents of a plain array. -/
abbrev Arr (S : Shape) := (⟨S, .f32⟩ : BufTy).Contents (Elt Ideal)

/-- The plain program's hidden activations are the layer's. -/
theorem hidden_eq (x : Arr S64x1024) (w : Arr S1024x16384) (i : Fin 64) (h : Fin 16384) :
    val_main_v2 (F := Ideal) x w (ix2 i h) = hidden (mat x) (mat w) i h := by
  rw [val_main_v2_apply, val_main_v0_apply, val_main_v1_apply, val_main_cst_apply]
  have hl : ∀ k, lidx_main_v0 (ix2 i h) k = ix2 i k := fun k => eq_ix2 _
  have hr : ∀ k, ridx_main_v0 (ix2 i h) k = ix2 k h := fun k => eq_ix2 _
  simp only [hl, hr]
  exact congrArg (max _) Ideal.ofBits_zero_f32

/-- One layer of the plain program is the layer. -/
theorem layer_eq (x : Arr S64x1024) (w : Arr S1024x16384) (v : Arr S16384x1024) :
    mat (val_main_v3 (F := Ideal) x w v) = layer (mat x) (mat w) (mat v) := by
  funext i j
  show val_main_v3 (F := Ideal) x w v (ix2 i j) = _
  rw [val_main_v3_apply]
  have hl : ∀ k, lidx_main_v3 (ix2 i j) k = ix2 i k := fun k => eq_ix2 _
  have hr : ∀ k, ridx_main_v3 (ix2 i j) k = ix2 k j := fun k => eq_ix2 _
  simp only [hl, hr, hidden_eq]
  rfl

/-- The plain program applies its one layer's operations three times. -/
theorem thrice (x : Arr S64x1024) (w₀ : Arr S1024x16384) (v₀ : Arr S16384x1024) (w₁ : Arr S1024x16384) (v₁ : Arr S16384x1024)
    (w₂ : Arr S1024x16384) (v₂ : Arr S16384x1024) : val_main_v11 (F := Ideal) x w₀ v₀ w₁ v₁ w₂ v₂
      = val_main_v3 (F := Ideal) (val_main_v3 (F := Ideal) (val_main_v3 (F := Ideal) x w₀ v₀) w₁ v₁) w₂ v₂ := rfl

/-- The plain program's result. -/
theorem result_eq (x : Arr S64x1024) (w : ℕ → Arr S1024x16384) (v : ℕ → Arr S16384x1024) :
    mat (val_main_v11 (F := Ideal) x (w 0) (v 0) (w 1) (v 1) (w 2) (v 2))
      = through (mat x) (fun l => mat (w l)) (fun l => mat (v l)) 3 := by
  rw [thrice, layer_eq, layer_eq, layer_eq]
  rfl

end Cert.Exchange.Plain

end
-- ==== Proof.Equal.lean ====
/- The equation: every device ends with the result of the plain program run on the whole arrays. -/
module

public import proofs.«01_k».proof.Proof.Frames
public import proofs.«01_k».proof.Proof.Layers
public import proofs.«01_k».proof.Proof.Plain

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

open Idealize.ShloMosaic.ValueIdx

/-- Where the elements of a half lie in the output block. -/
theorem half_emb (q : Fin 2) (i : Fin 64) (j : Fin 512) : (cF q).emb (ix2 i j) = ix2 i (half q.val j) := by
  funext a
  refine Fin.ext ?_
  match q, a with
  | ⟨0, _⟩, ⟨0, _⟩ => show 0 + 1 * i.val = i.val; omega
  | ⟨0, _⟩, ⟨1, _⟩ => show 0 + 1 * j.val = j.val; omega
  | ⟨1, _⟩, ⟨0, _⟩ => show 0 + 1 * i.val = i.val; omega
  | ⟨1, _⟩, ⟨1, _⟩ => show 512 + 1 * j.val = 512 + j.val; omega

/-- Every column is a column of one of the halves. -/
theorem half_cover (j : Fin 1024) : ∃ (q : Fin 2) (k : Fin 512), half q.val k = j := by
  by_cases h : j.val < 512
  · exact ⟨0, ⟨j.val, h⟩, rfl⟩
  · exact ⟨1, ⟨j.val - 512, by omega⟩, Fin.ext (show 512 + (j.val - 512) = j.val by omega)⟩

/-- The output block on every device: the activations after three layers. -/
theorem out_eq {D : Data Ideal} {X : Mat 64 1024} {W : ℕ → Mat 1024 16384} {V : ℕ → Mat 16384 1024} (P : Parts D X W V) (c : Dev nD) :
    mat (out D c) = through X W V 3 := by
  funext i j
  obtain ⟨q, k, rfl⟩ := half_cover j
  show out D c (ix2 i (half q.val k)) = _
  rw [← half_emb, out_half, outHalf_eq P]

/-- An element of a device's columns in the whole array. -/
theorem columns_at (c : Dev nD) (f : (⟨2, ![1024, 16384]⟩ : Shape).Idx → EReal) (k : Fin 1024) (t : Fin 2048) :
    (Layout.block ⟨2, ![1024, 2048]⟩ ⟨2, ![1024, 16384]⟩ 1 8 c f (by decide)) (ix2 k t) = mat f k (own c t) :=
  congrArg f (eq_ix2 _)
/-- An element of a device's rows in the whole array. -/
theorem rows_at (c : Dev nD) (f : (⟨2, ![16384, 1024]⟩ : Shape).Idx → EReal) (t : Fin 2048) (j : Fin 1024) :
    (Layout.block ⟨2, ![2048, 1024]⟩ ⟨2, ![16384, 1024]⟩ 0 8 c f (by decide)) (ix2 t j) = mat f (own c t) j :=
  congrArg f (eq_ix2 _)

/-- The plain program's first matrices, by layer. -/
def firsts (m' : (ℓ : Loc Cert.ReferenceIdeal.nD Cert.ReferenceIdeal.τ Cert.ReferenceIdeal.sig) → Buf (Elt Ideal) ℓ) (l : ℕ) : Plain.Arr Cert.ReferenceIdeal.S1024x16384 :=
  match l with
  | 0 => m' (((0 : Dev Cert.ReferenceIdeal.nD).tc : Thread Cert.ReferenceIdeal.nD Cert.ReferenceIdeal.τ).loc Cert.ReferenceIdeal.main_arg1)
  | 1 => m' (((0 : Dev Cert.ReferenceIdeal.nD).tc : Thread Cert.ReferenceIdeal.nD Cert.ReferenceIdeal.τ).loc Cert.ReferenceIdeal.main_arg3)
  | _ => m' (((0 : Dev Cert.ReferenceIdeal.nD).tc : Thread Cert.ReferenceIdeal.nD Cert.ReferenceIdeal.τ).loc Cert.ReferenceIdeal.main_arg5)
/-- Its second matrices. -/
def seconds (m' : (ℓ : Loc Cert.ReferenceIdeal.nD Cert.ReferenceIdeal.τ Cert.ReferenceIdeal.sig) → Buf (Elt Ideal) ℓ) (l : ℕ) : Plain.Arr Cert.ReferenceIdeal.S16384x1024 :=
  match l with
  | 0 => m' (((0 : Dev Cert.ReferenceIdeal.nD).tc : Thread Cert.ReferenceIdeal.nD Cert.ReferenceIdeal.τ).loc Cert.ReferenceIdeal.main_arg2)
  | 1 => m' (((0 : Dev Cert.ReferenceIdeal.nD).tc : Thread Cert.ReferenceIdeal.nD Cert.ReferenceIdeal.τ).loc Cert.ReferenceIdeal.main_arg4)
  | _ => m' (((0 : Dev Cert.ReferenceIdeal.nD).tc : Thread Cert.ReferenceIdeal.nD Cert.ReferenceIdeal.τ).loc Cert.ReferenceIdeal.main_arg6)

/-- The value claim: the kernel on eight devices and the plain program on one end with the same result. -/
theorem equation : Cert.algebraic_KernelIdeal_ReferenceIdeal := by
  intro m ρ m' ρ' _ h
  let x : Plain.Arr Cert.ReferenceIdeal.S64x1024 := m' (((0 : Dev Cert.ReferenceIdeal.nD).tc : Thread Cert.ReferenceIdeal.nD Cert.ReferenceIdeal.τ).loc Cert.ReferenceIdeal.main_arg0)
  have P : Parts (dataOf m) (mat x) (fun l => mat (firsts m' l)) (fun l => mat (seconds m' l)) :=
    { x := fun c i k => by
        rw [x_whole m c]
        exact congrFun (h c).1 (ix2 i k)
      wi := fun l c k t => by
        match l with
        | 0 => exact (congrFun (h c).2.1 (ix2 k t)).trans (columns_at c _ k t)
        | 1 => exact (congrFun (h c).2.2.2.1 (ix2 k t)).trans (columns_at c _ k t)
        | _ + 2 => exact (congrFun (h c).2.2.2.2.2.1 (ix2 k t)).trans (columns_at c _ k t)
      wo := fun l c t j => by
        match l with
        | 0 => exact (congrFun (h c).2.2.1 (ix2 t j)).trans (rows_at c _ t j)
        | 1 => exact (congrFun (h c).2.2.2.2.1 (ix2 t j)).trans (rows_at c _ t j)
        | _ + 2 => exact (congrFun (h c).2.2.2.2.2.2 (ix2 t j)).trans (rows_at c _ t j) }
  let v : Plain.Arr Cert.ReferenceIdeal.S64x1024 := Cert.ReferenceIdeal.Read.val_main_v11 (F := Ideal) x (firsts m' 0) (seconds m' 0) (firsts m' 1) (seconds m' 1) (firsts m' 2) (seconds m' 2)
  have same : ∀ c : Dev nD, (out (dataOf m) c : (⟨2, ![64, 1024]⟩ : Shape).Idx → EReal) = v := fun c => by
    have e := (out_eq P c).trans (Plain.result_eq x (firsts m') (seconds m')).symm
    funext j
    rw [eq_ix2 j]
    exact congrFun (congrFun e (j 0)) (j 1)
  refine ⟨v, ?_, ?_⟩
  · exact (θ_run Cert.KernelIdeal.defs _ _).mono (fun _ hd c => ⟨(hd.res c).trans (same c), hd.args c⟩) (run_main m ρ)
  · exact (θ_run Cert.ReferenceIdeal.defs _ _).mono (fun _ hr => ⟨(hr 0).1, (hr 0).2⟩) (Cert.ReferenceIdeal.Value.run m' ρ')

end Cert.Exchange

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Equal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Exchange.frame_kernel, Cert.Exchange.frame_ideal, Cert.Exchange.frame_plain, trivial, Cert.Exchange.equation⟩

end Cert.Proof

end
